-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v58_0)) (v2 : (c : Dev Cert.KernelIdeal.nD) → Buf (Elt Ideal) ((c.tc : Thread Cert.KernelIdeal.nD Cert.KernelIdeal.τ).loc Cert.KernelIdeal.main_v58_1)) (v3 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v58_0) = v1 c
          ∧ r.2.mem ((c.tc : Thread Cert.KernelIdeal.nD Cert.KernelIdeal.τ).loc Cert.KernelIdeal.main_v58_1) = v2 c
          ∧ r.2.mem ((c.tc : Thread Cert.KernelIdeal.nD Cert.KernelIdeal.τ).loc Cert.KernelIdeal.main_v58_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S64x70652 : Shape := ⟨2, ![64, 70652]⟩
abbrev S64 : Shape := ⟨1, ![64]⟩
abbrev S3x32 : Shape := ⟨2, ![3, 32]⟩
abbrev S32 : Shape := ⟨1, ![32]⟩
abbrev S32x32 : Shape := ⟨2, ![32, 32]⟩
abbrev S1x32 : Shape := ⟨2, ![1, 32]⟩
abbrev S67x32 : Shape := ⟨2, ![67, 32]⟩
abbrev S32x1 : Shape := ⟨2, ![32, 1]⟩
abbrev S1 : Shape := ⟨1, ![1]⟩
abbrev S33x32 : Shape := ⟨2, ![33, 32]⟩
abbrev S64x70650 : Shape := ⟨2, ![64, 70650]⟩
abbrev S_ : Shape := ⟨0, ![]⟩

class Facts : Prop where
  slices_S64x70652_S64x70650_0_2 : S64x70652.Slices ![0, 2] S64x70650
  bcast_S_S64x70650 : S_.BroadcastsInDim S64x70650 (![] : Fin 0 → Fin S64x70650.rank)
  reducesTo_S64x70650_S_d0_1 : S64x70650.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S67x32 : S_.BroadcastsInDim S67x32 (![] : Fin 0 → Fin S67x32.rank)
  reducesTo_S67x32_S_d0_1 : S67x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_

variable [Facts]

def fn_part3 {F : FTy → Type} [FloatOps F] (main_arg1 : IVec S64 32) (main_v49 : IVec S_ 1) (main_v50 : FVec F S1 .f32) (main_cst_18 : FVec F S_ .f32) : IVec S_ 1 :=
  let main_v51 : FVec F S1 .f32 := broadcastInDim S1 ![] bcast_S_S1 main_cst_18
  let main_v52 : IVec S1 1 := cmpf .olt main_v50 main_v51
  let main_c_19 : IVec S_ 1 := constantI S_ 1 1#1
  let main_v53 : IVec S_ 1 := (fun x v => Host.reduce IntOp.andi x v reducesTo_S1_S_d0 h_S_) main_v52 main_c_19
  let main_v54 : IVec S_ 1 := andi main_v49 main_v53
  let main_c_20 : IVec S_ 32 := constantI S_ 32 0#32
  let main_v55 : IVec S64 32 := broadcastInDim S64 ![] bcast_S_S64 main_c_20
  let main_v56 : IVec S64 1 := cmpi .sge main_arg1 main_v55
  let main_c_21 : IVec S_ 32 := constantI S_ 32 10000#32
  let main_v57 : IVec S64 32 := broadcastInDim S64 ![] bcast_S_S64 main_c_21
  let main_v58 : IVec S64 1 := cmpi .slt main_arg1 main_v57
  let main_v59 : IVec S64 1 := andi main_v56 main_v58
  let main_c_22 : IVec S_ 1 := constantI S_ 1 1#1
  let main_v60 : IVec S_ 1 := (fun x v => Host.reduce IntOp.andi x v reducesTo_S64_S_d0 h_S_) main_v59 main_c_22
  let main_v61 : IVec S_ 1 := andi main_v54 main_v60
  main_v61

def fn_part2 {F : FTy → Type} [FloatOps F] (main_arg1 : IVec S64 32) (main_arg8 : FVec F S67x32 .f32) (main_arg9 : FVec F S32 .f32) (main_arg10 : FVec F S32x1 .f32) (main_arg11 : FVec F S1 .f32) (main_v29 : IVec S_ 1) (main_v33 : IVec S_ 1) : IVec S_ 1 :=
  let main_v34 : IVec S_ 1 := andi main_v29 main_v33
  let main_v35 : FVec F S67x32 .f32 := Host.absf main_arg8
  let main_cst_12 : FVec F S_ .f32 := constant S_ .f32 0x7F800000#32
  let main_v36 : FVec F S67x32 .f32 := broadcastInDim S67x32 ![] bcast_S_S67x32 main_cst_12
  let main_v37 : IVec S67x32 1 := cmpf .olt main_v35 main_v36
  let main_c_13 : IVec S_ 1 := constantI S_ 1 1#1
  let main_v38 : IVec S_ 1 := (fun x v => Host.reduce IntOp.andi x v reducesTo_S67x32_S_d0_1 h_S_) main_v37 main_c_13
  let main_v39 : IVec S_ 1 := andi main_v34 main_v38
  let main_v40 : FVec F S32 .f32 := Host.absf main_arg9
  let main_cst_14 : FVec F S_ .f32 := constant S_ .f32 0x7F800000#32
  let main_v41 : FVec F S32 .f32 := broadcastInDim S32 ![] bcast_S_S32 main_cst_14
  let main_v42 : IVec S32 1 := cmpf .olt main_v40 main_v41
  let main_c_15 : IVec S_ 1 := constantI S_ 1 1#1
  let main_v43 : IVec S_ 1 := (fun x v => Host.reduce IntOp.andi x v reducesTo_S32_S_d0 h_S_) main_v42 main_c_15
  let main_v44 : IVec S_ 1 := andi main_v39 main_v43
  let main_v45 : FVec F S32x1 .f32 := Host.absf main_arg10
  let main_cst_16 : FVec F S_ .f32 := constant S_ .f32 0x7F800000#32
  let main_v46 : FVec F S32x1 .f32 := broadcastInDim S32x1 ![] bcast_S_S32x1 main_cst_16
  let main_v47 : IVec S32x1 1 := cmpf .olt main_v45 main_v46
  let main_c_17 : IVec S_ 1 := constantI S_ 1 1#1
  let main_v48 : IVec S_ 1 := (fun x v => Host.reduce IntOp.andi x v reducesTo_S32x1_S_d0_1 h_S_) main_v47 main_c_17
  let main_v49 : IVec S_ 1 := andi main_v44 main_v48
  let main_v50 : FVec F S1 .f32 := Host.absf main_arg11
  let main_cst_18 : FVec F S_ .f32 := constant S_ .f32 0x7F800000#32
  fn_part3 (F := F) main_arg1 main_v49 main_v50 main_cst_18

def fn_part1 {F : FTy → Type} [FloatOps F] (main_arg1 : IVec S64 32) (main_arg5 : FVec F S32 .f32) (main_arg6 : FVec F S1x32 .f32) (main_arg7 : FVec F S32 .f32) (main_arg8 : FVec F S67x32 .f32) (main_arg9 : FVec F S32 .f32) (main_arg10 : FVec F S32x1 .f32) (main_arg11 : FVec F S1 .f32) (main_v14 : IVec S_ 1) (main_v15 : FVec F S32x32 .f32) (main_v16 : FVec F S32x32 .f32) : IVec S_ 1 :=
  let main_v17 : IVec S32x32 1 := cmpf .olt main_v15 main_v16
  let main_c_5 : IVec S_ 1 := constantI S_ 1 1#1
  let main_v18 : IVec S_ 1 := (fun x v => Host.reduce IntOp.andi x v reducesTo_S32x32_S_d0_1 h_S_) main_v17 main_c_5
  let main_v19 : IVec S_ 1 := andi main_v14 main_v18
  let main_v20 : FVec F S32 .f32 := Host.absf main_arg5
  let main_cst_6 : FVec F S_ .f32 := constant S_ .f32 0x7F800000#32
  let main_v21 : FVec F S32 .f32 := broadcastInDim S32 ![] bcast_S_S32 main_cst_6
  let main_v22 : IVec S32 1 := cmpf .olt main_v20 main_v21
  let main_c_7 : IVec S_ 1 := constantI S_ 1 1#1
  let main_v23 : IVec S_ 1 := (fun x v => Host.reduce IntOp.andi x v reducesTo_S32_S_d0 h_S_) main_v22 main_c_7
  let main_v24 : IVec S_ 1 := andi main_v19 main_v23
  let main_v25 : FVec F S1x32 .f32 := Host.absf main_arg6
  let main_cst_8 : FVec F S_ .f32 := constant S_ .f32 0x7F800000#32
  let main_v26 : FVec F S1x32 .f32 := broadcastInDim S1x32 ![] bcast_S_S1x32 main_cst_8
  let main_v27 : IVec S1x32 1 := cmpf .olt main_v25 main_v26
  let main_c_9 : IVec S_ 1 := constantI S_ 1 1#1
  let main_v28 : IVec S_ 1 := (fun x v => Host.reduce IntOp.andi x v reducesTo_S1x32_S_d0_1 h_S_) main_v27 main_c_9
  let main_v29 : IVec S_ 1 := andi main_v24 main_v28
  let main_v30 : FVec F S32 .f32 := Host.absf main_arg7
  let main_cst_10 : FVec F S_ .f32 := constant S_ .f32 0x7F800000#32
  let main_v31 : FVec F S32 .f32 := broadcastInDim S32 ![] bcast_S_S32 main_cst_10
  let main_v32 : IVec S32 1 := cmpf .olt main_v30 main_v31
  let main_c_11 : IVec S_ 1 := constantI S_ 1 1#1
  let main_v33 : IVec S_ 1 := (fun x v => Host.reduce IntOp.andi x v reducesTo_S32_S_d0 h_S_) main_v32 main_c_11
  fn_part2 (F := F) main_arg1 main_arg8 main_arg9 main_arg10 main_arg11 main_v29 main_v33

def fn {F : FTy → Type} [FloatOps F] (main_arg0 : FVec F S64x70652 .f32) (main_arg1 : IVec S64 32) (main_arg2 : FVec F S3x32 .f32) (main_arg3 : FVec F S32 .f32) (main_arg4 : FVec F S32x32 .f32) (main_arg5 : FVec F S32 .f32) (main_arg6 : FVec F S1x32 .f32) (main_arg7 : FVec F S32 .f32) (main_arg8 : FVec F S67x32 .f32) (main_arg9 : FVec F S32 .f32) (main_arg10 : FVec F S32x1 .f32) (main_arg11 : FVec F S1 .f32) (main_arg12 : FVec F S33x32 .f32) (main_arg13 : FVec F S32 .f32) (main_arg14 : FVec F S32x1 .f32) (main_arg15 : FVec F S1 .f32) : IVec S_ 1 :=
  let main_v0 : FVec F S64x70650 .f32 := (extractStridedSlice S64x70650 ![0, 2] · slices_S64x70652_S64x70650_0_2) main_arg0
  let main_v1 : FVec F S64x70650 .f32 := Host.absf main_v0
  let main_cst : FVec F S_ .f32 := constant S_ .f32 0x7F800000#32
  let main_v2 : FVec F S64x70650 .f32 := broadcastInDim S64x70650 ![] bcast_S_S64x70650 main_cst
  let main_v3 : IVec S64x70650 1 := cmpf .olt main_v1 main_v2
  let main_c : IVec S_ 1 := constantI S_ 1 1#1
  let main_v4 : IVec S_ 1 := (fun x v => Host.reduce IntOp.andi x v reducesTo_S64x70650_S_d0_1 h_S_) main_v3 main_c
  let main_v5 : FVec F S3x32 .f32 := Host.absf main_arg2
  let main_cst_0 : FVec F S_ .f32 := constant S_ .f32 0x7F800000#32
  let main_v6 : FVec F S3x32 .f32 := broadcastInDim S3x32 ![] bcast_S_S3x32 main_cst_0
  let main_v7 : IVec S3x32 1 := cmpf .olt main_v5 main_v6
  let main_c_1 : IVec S_ 1 := constantI S_ 1 1#1
  let main_v8 : IVec S_ 1 := (fun x v => Host.reduce IntOp.andi x v reducesTo_S3x32_S_d0_1 h_S_) main_v7 main_c_1
  let main_v9 : IVec S_ 1 := andi main_v4 main_v8
  let main_v10 : FVec F S32 .f32 := Host.absf main_arg3
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v9 main_v13
  let main_v15 : FVec F S32x32 .f32 := Host.absf main_arg4
  let main_cst_4 : FVec F S_ .f32 := constant S_ .f32 0x7F800000#32
  let main_v16 : FVec F S32x32 .f32 := broadcastInDim S32x32 ![] bcast_S_S32x32 main_cst_4
  fn_part1 (F := F) main_arg1 main_arg5 main_arg6 main_arg7 main_arg8 main_arg9 main_arg10 main_arg11 main_v14 main_v15 main_v16
-- ==== Kernel.lean ====
abbrev S64x70652 : Shape := ⟨2, ![64, 70652]⟩
abbrev S64 : Shape := ⟨1, ![64]⟩
abbrev S3x32 : Shape := ⟨2, ![3, 32]⟩
abbrev S32 : Shape := ⟨1, ![32]⟩
abbrev S32x32 : Shape := ⟨2, ![32, 32]⟩
abbrev S1x32 : Shape := ⟨2, ![1, 32]⟩
abbrev S67x32 : Shape := ⟨2, ![67, 32]⟩
abbrev S32x1 : Shape := ⟨2, ![32, 1]⟩
abbrev S1 : Shape := ⟨1, ![1]⟩
abbrev S33x32 : Shape := ⟨2, ![33, 32]⟩
abbrev S64x600 : Shape := ⟨2, ![64, 600]⟩
abbrev S64x3x200x1 : Shape := ⟨4, ![64, 3, 200, 1]⟩
abbrev S64x50 : Shape := ⟨2, ![64, 50]⟩
abbrev S64x1x50 : Shape := ⟨3, ![64, 1, 50]⟩
abbrev S64x30000 : Shape := ⟨2, ![64, 30000]⟩
abbrev S64x3x200x50 : Shape := ⟨4, ![64, 3, 200, 50]⟩
abbrev S64x40000 : Shape := ⟨2, ![64, 40000]⟩
abbrev S64x200x200 : Shape := ⟨3, ![64, 200, 200]⟩
abbrev S64x1x1 : Shape := ⟨3, ![64, 1, 1]⟩
abbrev S50x50 : Shape := ⟨2, ![50, 50]⟩
abbrev S_ : Shape := ⟨0, ![]⟩
abbrev S1x32x1x32 : Shape := ⟨4, ![1, 32, 1, 32]⟩
abbrev S1x32x50x32 : Shape := ⟨4, ![1, 32, 50, 32]⟩
abbrev S32x1600 : Shape := ⟨2, ![32, 1600]⟩
abbrev S50x1x50x1 : Shape := ⟨4, ![50, 1, 50, 1]⟩
abbrev S1x1x1x32 : Shape := ⟨4, ![1, 1, 1, 32]⟩
abbrev S50x1x50x32 : Shape := ⟨4, ![50, 1, 50, 32]⟩
abbrev S50x1600 : Shape := ⟨2, ![50, 1600]⟩
abbrev S182x1600 : Shape := ⟨2, ![182, 1600]⟩
abbrev S1x32x1x1 : Shape := ⟨4, ![1, 32, 1, 1]⟩
abbrev S50x32x50x1 : Shape := ⟨4, ![50, 32, 50, 1]⟩
abbrev S1600x50 : Shape := ⟨2, ![1600, 50]⟩
abbrev S50x32 : Shape := ⟨2, ![50, 32]⟩
abbrev S1600 : Shape := ⟨1, ![1600]⟩
abbrev S1x1600 : Shape := ⟨2, ![1, 1600]⟩
abbrev S1x1 : Shape := ⟨2, ![1, 1]⟩
abbrev S8x3x200x1 : Shape := ⟨4, ![8, 3, 200, 1]⟩
abbrev S8x1x50 : Shape := ⟨3, ![8, 1, 50]⟩
abbrev S8x3x200x50 : Shape := ⟨4, ![8, 3, 200, 50]⟩
abbrev S8x200x200 : Shape := ⟨3, ![8, 200, 200]⟩
abbrev S8x1x1 : Shape := ⟨3, ![8, 1, 1]⟩
abbrev S1x1x200x1 : Shape := ⟨4, ![1, 1, 200, 1]⟩
abbrev S200x1 : Shape := ⟨2, ![200, 1]⟩
abbrev S200x32 : Shape := ⟨2, ![200, 32]⟩
abbrev S1x200x200 : Shape := ⟨3, ![1, 200, 200]⟩
abbrev S200x200 : Shape := ⟨2, ![200, 200]⟩
abbrev S1x1x50 : Shape := ⟨3, ![1, 1, 50]⟩
abbrev S1x50 : Shape := ⟨2, ![1, 50]⟩
abbrev S32x50 : Shape := ⟨2, ![32, 50]⟩
abbrev S1x1x200x50 : Shape := ⟨4, ![1, 1, 200, 50]⟩
abbrev S200x50 : Shape := ⟨2, ![200, 50]⟩
abbrev S200x182 : Shape := ⟨2, ![200, 182]⟩
abbrev S200x1600 : Shape := ⟨2, ![200, 1600]⟩
abbrev S1x200x50 : Shape := ⟨3, ![1, 200, 50]⟩
abbrev S1x1x1 : Shape := ⟨3, ![1, 1, 1]⟩

abbrev nBuf : Space → Nat
  | .hbm => 104
  | .vmem => 33
  | .smem => 0
  | _ => 0

abbrev bufTy : (tb : Table) → Fin (tcTables nBuf tb) → BufTy
  | .hbm, ⟨0, _⟩ => ⟨S64x70652, .f32⟩
  | .hbm, ⟨1, _⟩ => ⟨S64, .i32⟩
  | .hbm, ⟨2, _⟩ => ⟨S3x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x32, .f32⟩
  | .hbm, ⟨7, _⟩ => ⟨S32, .f32⟩
  | .hbm, ⟨8, _⟩ => ⟨S67x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S33x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S64x600, .f32⟩
  | .hbm, ⟨17, _⟩ => ⟨S64x3x200x1, .f32⟩
  | .hbm, ⟨18, _⟩ => ⟨S64x50, .f32⟩
  | .hbm, ⟨19, _⟩ => ⟨S64x1x50, .f32⟩
  | .hbm, ⟨20, _⟩ => ⟨S64x30000, .f32⟩
  | .hbm, ⟨21, _⟩ => ⟨S64x3x200x50, .f32⟩
  | .hbm, ⟨22, _⟩ => ⟨S64x3x200x50, .bf16⟩
  | .hbm, ⟨23, _⟩ => ⟨S64x40000, .f32⟩
  | .hbm, ⟨24, _⟩ => ⟨S64x200x200, .f32⟩
  | .hbm, ⟨25, _⟩ => ⟨S64x200x200, .bf16⟩
  | .hbm, ⟨26, _⟩ => ⟨S64x1x1, .i32⟩
  | .hbm, ⟨27, _⟩ => ⟨S1x32, .f32⟩
  | .hbm, ⟨28, _⟩ => ⟨S32, .f32⟩
  | .hbm, ⟨29, _⟩ => ⟨S1x32, .f32⟩
  | .hbm, ⟨30, _⟩ => ⟨S32, .f32⟩
  | .hbm, ⟨31, _⟩ => ⟨S1x32, .f32⟩
  | .hbm, ⟨32, _⟩ => ⟨S32, .f32⟩
  | .hbm, ⟨33, _⟩ => ⟨S50x50, .i32⟩
  | .hbm, ⟨34, _⟩ => ⟨S50x50, .i32⟩
  | .hbm, ⟨35, _⟩ => ⟨S_, .i32⟩
  | .hbm, ⟨36, _⟩ => ⟨S50x50, .i32⟩
  | .hbm, ⟨37, _⟩ => ⟨S50x50, .i32⟩
  | .hbm, ⟨38, _⟩ => ⟨S50x50, .i1⟩
  | .hbm, ⟨39, _⟩ => ⟨S50x50, .f32⟩
  | .hbm, ⟨40, _⟩ => ⟨S32x32, .f32⟩
  | .hbm, ⟨41, _⟩ => ⟨S1x32x1x32, .f32⟩
  | .hbm, ⟨42, _⟩ => ⟨S1x32x50x32, .f32⟩
  | .hbm, ⟨43, _⟩ => ⟨S32x1600, .f32⟩
  | .hbm, ⟨44, _⟩ => ⟨S1x32, .f32⟩
  | .hbm, ⟨45, _⟩ => ⟨S50x1x50x1, .f32⟩
  | .hbm, ⟨46, _⟩ => ⟨S1x1x1x32, .f32⟩
  | .hbm, ⟨47, _⟩ => ⟨S50x1x50x32, .f32⟩
  | .hbm, ⟨48, _⟩ => ⟨S50x1x50x32, .f32⟩
  | .hbm, ⟨49, _⟩ => ⟨S50x1x50x32, .f32⟩
  | .hbm, ⟨50, _⟩ => ⟨S50x1600, .f32⟩
  | .hbm, ⟨51, _⟩ => ⟨S1x32, .f32⟩
  | .hbm, ⟨52, _⟩ => ⟨S50x1x50x1, .f32⟩
  | .hbm, ⟨53, _⟩ => ⟨S1x1x1x32, .f32⟩
  | .hbm, ⟨54, _⟩ => ⟨S50x1x50x32, .f32⟩
  | .hbm, ⟨55, _⟩ => ⟨S50x1x50x32, .f32⟩
  | .hbm, ⟨56, _⟩ => ⟨S50x1x50x32, .f32⟩
  | .hbm, ⟨57, _⟩ => ⟨S50x1600, .f32⟩
  | .hbm, ⟨58, _⟩ => ⟨S1x32, .f32⟩
  | .hbm, ⟨59, _⟩ => ⟨S50x1x50x1, .f32⟩
  | .hbm, ⟨60, _⟩ => ⟨S1x1x1x32, .f32⟩
  | .hbm, ⟨61, _⟩ => ⟨S50x1x50x32, .f32⟩
  | .hbm, ⟨62, _⟩ => ⟨S50x1x50x32, .f32⟩
  | .hbm, ⟨63, _⟩ => ⟨S50x1x50x32, .f32⟩
  | .hbm, ⟨64, _⟩ => ⟨S50x1600, .f32⟩
  | .hbm, ⟨65, _⟩ => ⟨S182x1600, .f32⟩
  | .hbm, ⟨66, _⟩ => ⟨S182x1600, .bf16⟩
  | .hbm, ⟨67, _⟩ => ⟨S50x1x50x1, .f32⟩
  | .hbm, ⟨68, _⟩ => ⟨S1x32x1x1, .f32⟩
  | .hbm, ⟨69, _⟩ => ⟨S50x32x50x1, .f32⟩
  | .hbm, ⟨70, _⟩ => ⟨S50x32x50x1, .f32⟩
  | .hbm, ⟨71, _⟩ => ⟨S50x32x50x1, .f32⟩
  | .hbm, ⟨72, _⟩ => ⟨S1600x50, .f32⟩
  | .hbm, ⟨73, _⟩ => ⟨S1600x50, .bf16⟩
  | .hbm, ⟨74, _⟩ => ⟨S_, .f32⟩
  | .hbm, ⟨75, _⟩ => ⟨S1x32, .f32⟩
  | .hbm, ⟨76, _⟩ => ⟨S50x1x50x1, .f32⟩
  | .hbm, ⟨77, _⟩ => ⟨S1x1x1x32, .f32⟩
  | .hbm, ⟨78, _⟩ => ⟨S50x1x50x32, .f32⟩
  | .hbm, ⟨79, _⟩ => ⟨S50x1x50x32, .f32⟩
  | .hbm, ⟨80, _⟩ => ⟨S50x1x50x32, .f32⟩
  | .hbm, ⟨81, _⟩ => ⟨S50x1600, .f32⟩
  | .hbm, ⟨82, _⟩ => ⟨S50x1600, .bf16⟩
  | .hbm, ⟨83, _⟩ => ⟨S1x32, .f32⟩
  | .hbm, ⟨84, _⟩ => ⟨S50x32, .f32⟩
  | .hbm, ⟨85, _⟩ => ⟨S1600, .f32⟩
  | .hbm, ⟨86, _⟩ => ⟨S1x1600, .f32⟩
  | .hbm, ⟨87, _⟩ => ⟨S32x32, .f32⟩
  | .hbm, ⟨88, _⟩ => ⟨S1x32, .f32⟩
  | .hbm, ⟨89, _⟩ => ⟨S32, .f32⟩
  | .hbm, ⟨90, _⟩ => ⟨S1x32, .f32⟩
  | .hbm, ⟨91, _⟩ => ⟨S1x32, .f32⟩
  | .hbm, ⟨92, _⟩ => ⟨S1x32, .f32⟩
  | .hbm, ⟨93, _⟩ => ⟨S32, .f32⟩
  | .hbm, ⟨94, _⟩ => ⟨S32x1, .f32⟩
  | .hbm, ⟨95, _⟩ => ⟨S32x1, .f32⟩
  | .hbm, ⟨96, _⟩ => ⟨S32x32, .f32⟩
  | .hbm, ⟨97, _⟩ => ⟨S32x32, .f32⟩
  | .hbm, ⟨98, _⟩ => ⟨S1x1, .f32⟩
  | .hbm, ⟨99, _⟩ => ⟨S1x32, .f32⟩
  | .hbm, ⟨100, _⟩ => ⟨S1x1, .f32⟩
  | .hbm, ⟨101, _⟩ => ⟨S64x1x1, .f32⟩
  | .hbm, ⟨102, _⟩ => ⟨S64x1x1, .f32⟩
  | .hbm, ⟨103, _⟩ => ⟨S64x1x1, .f32⟩
  | .local _ .vmem, ⟨0, _⟩ => ⟨S8x3x200x1, .f32⟩
  | .local _ .vmem, ⟨1, _⟩ => ⟨S8x3x200x1, .f32⟩
  | .local _ .vmem, ⟨2, _⟩ => ⟨S8x1x50, .f32⟩
  | .local _ .vmem, ⟨3, _⟩ => ⟨S8x1x50, .f32⟩
  | .local _ .vmem, ⟨4, _⟩ => ⟨S8x3x200x50, .bf16⟩
  | .local _ .vmem, ⟨5, _⟩ => ⟨S8x3x200x50, .bf16⟩
  | .local _ .vmem, ⟨6, _⟩ => ⟨S8x200x200, .bf16⟩
  | .local _ .vmem, ⟨7, _⟩ => ⟨S8x200x200, .bf16⟩
  | .local _ .vmem, ⟨8, _⟩ => ⟨S8x1x1, .i32⟩
  | .local _ .vmem, ⟨9, _⟩ => ⟨S8x1x1, .i32⟩
  | .local _ .vmem, ⟨10, _⟩ => ⟨S3x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S32x1, .f32⟩
  | .local _ .vmem, ⟨15, _⟩ => ⟨S32x1, .f32⟩
  | .local _ .vmem, ⟨16, _⟩ => ⟨S32x32, .f32⟩
  | .local _ .vmem, ⟨17, _⟩ => ⟨S50x1600, .bf16⟩
  | .local _ .vmem, ⟨18, _⟩ => ⟨S1x1600, .f32⟩
  | .local _ .vmem, ⟨19, _⟩ => ⟨S182x1600, .bf16⟩
  | .local _ .vmem, ⟨20, _⟩ => ⟨S1600x50, .bf16⟩
  | .local _ .vmem, ⟨21, _⟩ => ⟨S1x1, .f32⟩
  | .local _ .vmem, ⟨22, _⟩ => ⟨S32x32, .f32⟩
  | .local _ .vmem, ⟨23, _⟩ => ⟨S1x32, .f32⟩
  | .local _ .vmem, ⟨24, _⟩ => ⟨S1x32, .f32⟩
  | .local _ .vmem, ⟨25, _⟩ => ⟨S32x1, .f32⟩
  | .local _ .vmem, ⟨26, _⟩ => ⟨S1x1, .f32⟩
  | .local _ .vmem, ⟨27, _⟩ => ⟨S8x1x1, .f32⟩
  | .local _ .vmem, ⟨28, _⟩ => ⟨S8x1x1, .f32⟩
  | .local _ .vmem, ⟨29, _⟩ => ⟨S8x1x1, .f32⟩
  | .local _ .vmem, ⟨30, _⟩ => ⟨S8x1x1, .f32⟩
  | .local _ .vmem, ⟨31, _⟩ => ⟨S8x1x1, .f32⟩
  | .local _ .vmem, ⟨32, _⟩ => ⟨S8x1x1, .f32⟩
  | _, _ => ⟨S64x70652, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v30 : Ref sig .tc := ⟨.hbm, 57, rfl⟩
abbrev main_v31 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v35 : Ref sig .tc := ⟨.hbm, 72, rfl⟩
abbrev main_v36 : Ref sig .tc := ⟨.hbm, 73, rfl⟩
abbrev main_cst : Ref sig .tc := ⟨.hbm, 74, rfl⟩
abbrev main_v37 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58_0 : Ref sig .tc := ⟨.hbm, 101, rfl⟩
abbrev main_v58_1 : Ref sig .tc := ⟨.hbm, 102, rfl⟩
abbrev main_v58_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x200x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3x200x50 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x200x200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S50x1600 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1600 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S182x1600 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1600x50 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S8x1x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x1x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x1x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceIdeal.lean ====
abbrev S64x70652 : Shape := ⟨2, ![64, 70652]⟩
abbrev S64 : Shape := ⟨1, ![64]⟩
abbrev S3x32 : Shape := ⟨2, ![3, 32]⟩
abbrev S32 : Shape := ⟨1, ![32]⟩
abbrev S32x32 : Shape := ⟨2, ![32, 32]⟩
abbrev S1x32 : Shape := ⟨2, ![1, 32]⟩
abbrev S67x32 : Shape := ⟨2, ![67, 32]⟩
abbrev S32x1 : Shape := ⟨2, ![32, 1]⟩
abbrev S1 : Shape := ⟨1, ![1]⟩
abbrev S33x32 : Shape := ⟨2, ![33, 32]⟩
abbrev S64x200 : Shape := ⟨2, ![64, 200]⟩
abbrev S64x50 : Shape := ⟨2, ![64, 50]⟩
abbrev S64x10000 : Shape := ⟨2, ![64, 10000]⟩
abbrev S64x200x50 : Shape := ⟨3, ![64, 200, 50]⟩
abbrev S64x40000 : Shape := ⟨2, ![64, 40000]⟩
abbrev S64x200x200 : Shape := ⟨3, ![64, 200, 200]⟩
abbrev S64x200x1 : Shape := ⟨3, ![64, 200, 1]⟩
abbrev S64x200x3 : Shape := ⟨3, ![64, 200, 3]⟩
abbrev S64x200x32 : Shape := ⟨3, ![64, 200, 32]⟩
abbrev S1x1x32 : Shape := ⟨3, ![1, 1, 32]⟩
abbrev S_ : Shape := ⟨0, ![]⟩
abbrev S64x50x1 : Shape := ⟨3, ![64, 50, 1]⟩
abbrev S64x50x32 : Shape := ⟨3, ![64, 50, 32]⟩
abbrev S64x200x1x32 : Shape := ⟨4, ![64, 200, 1, 32]⟩
abbrev S64x200x50x32 : Shape := ⟨4, ![64, 200, 50, 32]⟩
abbrev S64x1x50x32 : Shape := ⟨4, ![64, 1, 50, 32]⟩
abbrev S64x200x50x1 : Shape := ⟨4, ![64, 200, 50, 1]⟩
abbrev S64x200x50x67 : Shape := ⟨4, ![64, 200, 50, 67]⟩
abbrev S1x1x1x32 : Shape := ⟨4, ![1, 1, 1, 32]⟩
abbrev S1x1x1x1 : Shape := ⟨4, ![1, 1, 1, 1]⟩
abbrev S64x1 : Shape := ⟨2, ![64, 1]⟩
abbrev S64x1x1 : Shape := ⟨3, ![64, 1, 1]⟩
abbrev S1x1x1 : Shape := ⟨3, ![1, 1, 1]⟩
abbrev S64x32 : Shape := ⟨2, ![64, 32]⟩
abbrev S64x33 : Shape := ⟨2, ![64, 33]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S64x70652, .f32⟩
  | 1 => ⟨S64, .i32⟩
  | 2 => ⟨S3x32, .f32⟩
  | 3 => ⟨S32, .f32⟩
  | 4 => ⟨S32x32, .f32⟩
  | 5 => ⟨S32, .f32⟩
  | 6 => ⟨S1x32, .f32⟩
  | 7 => ⟨S32, .f32⟩
  | 8 => ⟨S67x32, .f32⟩
  | 9 => ⟨S32, .f32⟩
  | 10 => ⟨S32x1, .f32⟩
  | 11 => ⟨S1, .f32⟩
  | 12 => ⟨S33x32, .f32⟩
  | 13 => ⟨S32, .f32⟩
  | 14 => ⟨S32x1, .f32⟩
  | 15 => ⟨S1, .f32⟩
  | 16 => ⟨S64x200, .f32⟩
  | 17 => ⟨S64x200, .f32⟩
  | 18 => ⟨S64x200, .f32⟩
  | 19 => ⟨S64x50, .f32⟩
  | 20 => ⟨S64x10000, .f32⟩
  | 21 => ⟨S64x200x50, .f32⟩
  | 22 => ⟨S64x10000, .f32⟩
  | 23 => ⟨S64x200x50, .f32⟩
  | 24 => ⟨S64x10000, .f32⟩
  | 25 => ⟨S64x200x50, .f32⟩
  | 26 => ⟨S64x40000, .f32⟩
  | 27 => ⟨S64x200x200, .f32⟩
  | 28 => ⟨S64x200x1, .f32⟩
  | 29 => ⟨S64x200x1, .f32⟩
  | 30 => ⟨S64x200x1, .f32⟩
  | 31 => ⟨S64x200x3, .f32⟩
  | 32 => ⟨S64x200x32, .f32⟩
  | 33 => ⟨S1x1x32, .f32⟩
  | 34 => ⟨S64x200x32, .f32⟩
  | 35 => ⟨S64x200x32, .f32⟩
  | 36 => ⟨S_, .f32⟩
  | 37 => ⟨S64x200x32, .f32⟩
  | 38 => ⟨S64x200x32, .f32⟩
  | 39 => ⟨S64x200x32, .f32⟩
  | 40 => ⟨S64x200x32, .f32⟩
  | 41 => ⟨S64x200x32, .f32⟩
  | 42 => ⟨S1x1x32, .f32⟩
  | 43 => ⟨S64x200x32, .f32⟩
  | 44 => ⟨S64x200x32, .f32⟩
  | 45 => ⟨S_, .f32⟩
  | 46 => ⟨S64x200x32, .f32⟩
  | 47 => ⟨S64x200x32, .f32⟩
  | 48 => ⟨S64x50x1, .f32⟩
  | 49 => ⟨S64x50x32, .f32⟩
  | 50 => ⟨S1x1x32, .f32⟩
  | 51 => ⟨S64x50x32, .f32⟩
  | 52 => ⟨S64x50x32, .f32⟩
  | 53 => ⟨S_, .f32⟩
  | 54 => ⟨S64x50x32, .f32⟩
  | 55 => ⟨S64x50x32, .f32⟩
  | 56 => ⟨S64x200x1x32, .f32⟩
  | 57 => ⟨S64x200x50x32, .f32⟩
  | 58 => ⟨S64x1x50x32, .f32⟩
  | 59 => ⟨S64x200x50x32, .f32⟩
  | 60 => ⟨S64x200x50x1, .f32⟩
  | 61 => ⟨S64x200x50x1, .f32⟩
  | 62 => ⟨S64x200x50x1, .f32⟩
  | 63 => ⟨S64x200x50x67, .f32⟩
  | 64 => ⟨S64x200x50x32, .f32⟩
  | 65 => ⟨S1x1x1x32, .f32⟩
  | 66 => ⟨S64x200x50x32, .f32⟩
  | 67 => ⟨S64x200x50x32, .f32⟩
  | 68 => ⟨S_, .f32⟩
  | 69 => ⟨S64x200x50x32, .f32⟩
  | 70 => ⟨S64x200x50x32, .f32⟩
  | 71 => ⟨S64x200x50x1, .f32⟩
  | 72 => ⟨S1x1x1x1, .f32⟩
  | 73 => ⟨S64x200x50x1, .f32⟩
  | 74 => ⟨S64x200x50x1, .f32⟩
  | 75 => ⟨S64x200x50, .f32⟩
  | 76 => ⟨S64x200x1, .f32⟩
  | 77 => ⟨S_, .f32⟩
  | 78 => ⟨S64x200x1, .f32⟩
  | 79 => ⟨S64x200x1, .i1⟩
  | 80 => ⟨S_, .f32⟩
  | 81 => ⟨S64x200x50, .f32⟩
  | 82 => ⟨S64x200x50, .i1⟩
  | 83 => ⟨S64x200x50, .i1⟩
  | 84 => ⟨S64x200x50, .i1⟩
  | 85 => ⟨S_, .f32⟩
  | 86 => ⟨S_, .f32⟩
  | 87 => ⟨S64x200x50, .f32⟩
  | 88 => ⟨S64x200x50, .f32⟩
  | 89 => ⟨S64x10000, .f32⟩
  | 90 => ⟨S_, .f32⟩
  | 91 => ⟨S64, .f32⟩
  | 92 => ⟨S_, .f32⟩
  | 93 => ⟨S64, .f32⟩
  | 94 => ⟨S64, .f32⟩
  | 95 => ⟨S64x1, .f32⟩
  | 96 => ⟨S64x10000, .f32⟩
  | 97 => ⟨S64x10000, .f32⟩
  | 98 => ⟨S64x10000, .f32⟩
  | 99 => ⟨S_, .f32⟩
  | 100 => ⟨S64, .f32⟩
  | 101 => ⟨S64x1, .f32⟩
  | 102 => ⟨S64x1, .f32⟩
  | 103 => ⟨S64x10000, .f32⟩
  | 104 => ⟨S64x10000, .f32⟩
  | 105 => ⟨S64x10000, .f32⟩
  | 106 => ⟨S64x1, .i32⟩
  | 107 => ⟨S_, .i32⟩
  | 108 => ⟨S64x1, .i32⟩
  | 109 => ⟨S64x1, .i1⟩
  | 110 => ⟨S_, .i32⟩
  | 111 => ⟨S64x1, .i32⟩
  | 112 => ⟨S64x1, .i32⟩
  | 113 => ⟨S64x1, .i32⟩
  | 114 => ⟨S64x1x1, .i32⟩
  | 115 => ⟨S1, .i32⟩
  | 116 => ⟨S_, .i32⟩
  | 117 => ⟨S64x1x1, .i32⟩
  | 118 => ⟨S64x1x1, .i1⟩
  | 119 => ⟨S1x1x1, .i32⟩
  | 120 => ⟨S64x1x1, .i32⟩
  | 121 => ⟨S64x1x1, .i1⟩
  | 122 => ⟨S64x1x1, .i1⟩
  | 123 => ⟨S_, .i1⟩
  | 124 => ⟨S64x1, .i1⟩
  | 125 => ⟨S64x1, .f32⟩
  | 126 => ⟨S_, .f32⟩
  | 127 => ⟨S64x1, .f32⟩
  | _ => ⟨S64x70652, .f32⟩

abbrev hbmTy0_1 (i : Nat) : BufTy := match i % 128 with
  | 0 => ⟨S64x1, .f32⟩
  | 1 => ⟨S64x10000, .f32⟩
  | 2 => ⟨S_, .f32⟩
  | 3 => ⟨S64, .f32⟩
  | 4 => ⟨S64, .f32⟩
  | 5 => ⟨S_, .f32⟩
  | 6 => ⟨S64x32, .f32⟩
  | 7 => ⟨S_, .f32⟩
  | 8 => ⟨S64x32, .f32⟩
  | 9 => ⟨S64x32, .f32⟩
  | 10 => ⟨S_, .f32⟩
  | 11 => ⟨S64, .f32⟩
  | 12 => ⟨S_, .f32⟩
  | 13 => ⟨S64, .f32⟩
  | 14 => ⟨S64, .f32⟩
  | 15 => ⟨S64x1, .f32⟩
  | 16 => ⟨S64x33, .f32⟩
  | 17 => ⟨S64x32, .f32⟩
  | 18 => ⟨S1x32, .f32⟩
  | 19 => ⟨S64x32, .f32⟩
  | 20 => ⟨S64x32, .f32⟩
  | 21 => ⟨S_, .f32⟩
  | 22 => ⟨S64x32, .f32⟩
  | 23 => ⟨S64x32, .f32⟩
  | 24 => ⟨S64x1, .f32⟩
  | 25 => ⟨S1x1, .f32⟩
  | 26 => ⟨S64x1, .f32⟩
  | 27 => ⟨S64x1, .f32⟩
  | 28 => ⟨S64x1x1, .f32⟩
  | 29 => ⟨S64x1x1, .f32⟩
  | 30 => ⟨S64x1x1, .f32⟩
  | _ => ⟨S64x70652, .f32⟩

abbrev hbmTy (i : Nat) : BufTy := match i / 128 with
  | 0 => hbmTy0_0 i
  | 1 => hbmTy0_1 i
  | _ => ⟨S64x70652, .f32⟩

abbrev bufTy : (tb : Table) → Fin (tcTables nBuf tb) → BufTy
  | .hbm, ⟨i, _⟩ => hbmTy i
  | _, _ => ⟨S64x70652, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call3_cst : Ref sig .tc := ⟨.hbm, 68, rfl⟩
abbrev main_call3_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst : Ref sig .tc := ⟨.hbm, 77, rfl⟩
abbrev main_v53 : Ref sig .tc := ⟨.hbm, 78, rfl⟩
abbrev main_v54 : Ref sig .tc := ⟨.hbm, 79, rfl⟩
abbrev main_cst_0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_1 : Ref sig .tc := ⟨.hbm, 85, rfl⟩
abbrev main_call4_v0 : Ref sig .tc := ⟨.hbm, 86, rfl⟩
abbrev main_call4_v1 : Ref sig .tc := ⟨.hbm, 87, rfl⟩
abbrev main_v59 : Ref sig .tc := ⟨.hbm, 88, rfl⟩
abbrev main_v60 : Ref sig .tc := ⟨.hbm, 89, rfl⟩
abbrev main_call5_cst : Ref sig .tc := ⟨.hbm, 90, rfl⟩
abbrev main_call5_v0 : Ref sig .tc := ⟨.hbm, 91, rfl⟩
abbrev main_call5_cst_0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_cst_1 : Ref sig .tc := ⟨.hbm, 99, rfl⟩
abbrev main_call5_v7 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_call6_c : Ref sig .tc := ⟨.hbm, 107, rfl⟩
abbrev main_call6_v0 : Ref sig .tc := ⟨.hbm, 108, rfl⟩
abbrev main_call6_v1 : Ref sig .tc := ⟨.hbm, 109, rfl⟩
abbrev main_call6_c_0 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_c_1 : Ref sig .tc := ⟨.hbm, 115, rfl⟩
abbrev main_call6_c_2 : Ref sig .tc := ⟨.hbm, 116, rfl⟩
abbrev main_call6_v6 : Ref sig .tc := ⟨.hbm, 117, rfl⟩
abbrev main_call6_v7 : Ref sig .tc := ⟨.hbm, 118, rfl⟩
abbrev main_call6_v8 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_c_3 : Ref sig .tc := ⟨.hbm, 123, rfl⟩
abbrev main_call6_v12 : Ref sig .tc := ⟨.hbm, 124, rfl⟩
abbrev main_call6_v13 : Ref sig .tc := ⟨.hbm, 125, rfl⟩
abbrev main_call6_cst : Ref sig .tc := ⟨.hbm, 126, rfl⟩
abbrev main_call6_v14 : Ref sig .tc := ⟨.hbm, 127, rfl⟩
abbrev main_v64 : Ref sig .tc := ⟨.hbm, 128, rfl⟩
abbrev main_v65 : Ref sig .tc := ⟨.hbm, 129, rfl⟩
abbrev main_cst_2 : Ref sig .tc := ⟨.hbm, 130, rfl⟩
abbrev main_v66 : Ref sig .tc := ⟨.hbm, 131, rfl⟩
abbrev main_v67 : Ref sig .tc := ⟨.hbm, 132, rfl⟩
abbrev main_cst_3 : Ref sig .tc := ⟨.hbm, 133, rfl⟩
abbrev main_v68 : Ref sig .tc := ⟨.hbm, 134, rfl⟩
abbrev main_cst_4 : Ref sig .tc := ⟨.hbm, 135, rfl⟩
abbrev main_v69 : Ref sig .tc := ⟨.hbm, 136, rfl⟩
abbrev main_v70 : Ref sig .tc := ⟨.hbm, 137, rfl⟩
abbrev main_cst_5 : Ref sig .tc := ⟨.hbm, 138, rfl⟩
abbrev main_v71 : Ref sig .tc := ⟨.hbm, 139, rfl⟩
abbrev main_cst_6 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_call7_cst : Ref sig .tc := ⟨.hbm, 149, rfl⟩
abbrev main_call7_v0 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩

abbrev nD : Nat := 1
abbrev τ : Topo := Topo.v7x

variable {F : FTy → Type} [FloatOps F]
-- ==== Proof.KernelIdealFrame.lean ====
/-
  The frame of `proofs.«01_k».proof.KernelIdeal`: a hand-kept copy of the generated frame module, whose body triple and body
  obligation need more heartbeats than they are given there. It states what each output's buffer holds after the
  body (`out0_22`, `out0_23`, `out0_24`), the body's triple (`sound_kernel`, `sound_body`), the run (`run_main`) and
  the frame claim (`frame`): every run ends, every argument array ends unchanged, every semaphore ends at zero.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).1 7).trans (((dats 0 c).arrAt_in 7 rfl _).trans ((hA c 7).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 20).trans (((dats 0 c).arrAt_in 20 rfl _).trans ((hA c 20).trans (V_main_arg14 m c))),
      ((h c).2 main_arg15 (Pipeline.mem_restRefs_of main_arg15 (by decide) (by decide))).trans (V_main_arg15 m c)⟩) h

/-! ## The body's accesses -/

abbrev r0_0 : Rect S8x3x200x1 := Rect.unit (s := S8x3x200x1) ![0, 0, 0, 0] S1x1x200x1.size inb_S8x3x200x1_S1x1x200x1_0_0_0_0
abbrev r0_1 : Rect S8x3x200x1 := Rect.unit (s := S8x3x200x1) ![0, 1, 0, 0] S1x1x200x1.size inb_S8x3x200x1_S1x1x200x1_0_1_0_0
abbrev r0_2 : Rect S8x3x200x1 := Rect.unit (s := S8x3x200x1) ![0, 2, 0, 0] S1x1x200x1.size inb_S8x3x200x1_S1x1x200x1_0_2_0_0
abbrev r0_3 : Rect S3x32 := Rect.unit (s := S3x32) ![0, 0] S1x32.size inb_S3x32_S1x32_0_0
abbrev r0_4 : Rect S3x32 := Rect.unit (s := S3x32) ![1, 0] S1x32.size inb_S3x32_S1x32_1_0
abbrev r0_5 : Rect S3x32 := Rect.unit (s := S3x32) ![2, 0] S1x32.size inb_S3x32_S1x32_2_0
abbrev r0_6 : Rect S1x32 := Rect.unit (s := S1x32) ![0, 0] S1x32.size inb_S1x32_S1x32_0_0
abbrev r0_7 : Rect S8x200x200 := Rect.unit (s := S8x200x200) ![0, 0, 0] S1x200x200.size inb_S8x200x200_S1x200x200_0_0_0
abbrev r0_8 : Rect S32x32 := Rect.unit (s := S32x32) ![0, 0] S32x32.size inb_S32x32_S32x32_0_0
abbrev r0_9 : Rect S8x1x50 := Rect.unit (s := S8x1x50) ![0, 0, 0] S1x1x50.size inb_S8x1x50_S1x1x50_0_0_0
abbrev r0_10 : Rect S32x1 := Rect.unit (s := S32x1) ![0, 0] S32x1.size inb_S32x1_S32x1_0_0
abbrev r0_11 : Rect S50x1600 := Rect.unit (s := S50x1600) ![0, 0] S50x1600.size inb_S50x1600_S50x1600_0_0
abbrev r0_12 : Rect S1x1600 := Rect.unit (s := S1x1600) ![0, 0] S1x1600.size inb_S1x1600_S1x1600_0_0
abbrev r0_13 : Rect S8x3x200x50 := Rect.unit (s := S8x3x200x50) ![0, 0, 0, 0] S1x1x200x50.size inb_S8x3x200x50_S1x1x200x50_0_0_0_0
abbrev r0_14 : Rect S8x3x200x50 := Rect.unit (s := S8x3x200x50) ![0, 1, 0, 0] S1x1x200x50.size inb_S8x3x200x50_S1x1x200x50_0_1_0_0
abbrev r0_15 : Rect S8x3x200x50 := Rect.unit (s := S8x3x200x50) ![0, 2, 0, 0] S1x1x200x50.size inb_S8x3x200x50_S1x1x200x50_0_2_0_0
abbrev r0_16 : Rect S182x1600 := Rect.unit (s := S182x1600) ![0, 0] S182x1600.size inb_S182x1600_S182x1600_0_0
abbrev r0_17 : Rect S1600x50 := Rect.unit (s := S1600x50) ![0, 0] S1600x50.size inb_S1600x50_S1600x50_0_0
abbrev r0_18 : Rect S1x1 := Rect.unit (s := S1x1) ![0, 0] S1x1.size inb_S1x1_S1x1_0_0
abbrev r0_19 : Rect S8x1x1 := Rect.unit (s := S8x1x1) ![0, 0, 0] S1x1x1.size inb_S8x1x1_S1x1x1_0_0_0
abbrev r0_20 : Rect S8x3x200x1 := Rect.unit (s := S8x3x200x1) ![1, 0, 0, 0] S1x1x200x1.size inb_S8x3x200x1_S1x1x200x1_1_0_0_0
abbrev r0_21 : Rect S8x3x200x1 := Rect.unit (s := S8x3x200x1) ![1, 1, 0, 0] S1x1x200x1.size inb_S8x3x200x1_S1x1x200x1_1_1_0_0
abbrev r0_22 : Rect S8x3x200x1 := Rect.unit (s := S8x3x200x1) ![1, 2, 0, 0] S1x1x200x1.size inb_S8x3x200x1_S1x1x200x1_1_2_0_0
abbrev r0_23 : Rect S8x200x200 := Rect.unit (s := S8x200x200) ![1, 0, 0] S1x200x200.size inb_S8x200x200_S1x200x200_1_0_0
abbrev r0_24 : Rect S8x1x50 := Rect.unit (s := S8x1x50) ![1, 0, 0] S1x1x50.size inb_S8x1x50_S1x1x50_1_0_0
abbrev r0_25 : Rect S8x3x200x50 := Rect.unit (s := S8x3x200x50) ![1, 0, 0, 0] S1x1x200x50.size inb_S8x3x200x50_S1x1x200x50_1_0_0_0
abbrev r0_26 : Rect S8x3x200x50 := Rect.unit (s := S8x3x200x50) ![1, 1, 0, 0] S1x1x200x50.size inb_S8x3x200x50_S1x1x200x50_1_1_0_0
abbrev r0_27 : Rect S8x3x200x50 := Rect.unit (s := S8x3x200x50) ![1, 2, 0, 0] S1x1x200x50.size inb_S8x3x200x50_S1x1x200x50_1_2_0_0
abbrev r0_28 : Rect S8x1x1 := Rect.unit (s := S8x1x1) ![1, 0, 0] S1x1x1.size inb_S8x1x1_S1x1x1_1_0_0
abbrev r0_29 : Rect S8x3x200x1 := Rect.unit (s := S8x3x200x1) ![2, 0, 0, 0] S1x1x200x1.size inb_S8x3x200x1_S1x1x200x1_2_0_0_0
abbrev r0_30 : Rect S8x3x200x1 := Rect.unit (s := S8x3x200x1) ![2, 1, 0, 0] S1x1x200x1.size inb_S8x3x200x1_S1x1x200x1_2_1_0_0
abbrev r0_31 : Rect S8x3x200x1 := Rect.unit (s := S8x3x200x1) ![2, 2, 0, 0] S1x1x200x1.size inb_S8x3x200x1_S1x1x200x1_2_2_0_0
abbrev r0_32 : Rect S8x200x200 := Rect.unit (s := S8x200x200) ![2, 0, 0] S1x200x200.size inb_S8x200x200_S1x200x200_2_0_0
abbrev r0_33 : Rect S8x1x50 := Rect.unit (s := S8x1x50) ![2, 0, 0] S1x1x50.size inb_S8x1x50_S1x1x50_2_0_0
abbrev r0_34 : Rect S8x3x200x50 := Rect.unit (s := S8x3x200x50) ![2, 0, 0, 0] S1x1x200x50.size inb_S8x3x200x50_S1x1x200x50_2_0_0_0
abbrev r0_35 : Rect S8x3x200x50 := Rect.unit (s := S8x3x200x50) ![2, 1, 0, 0] S1x1x200x50.size inb_S8x3x200x50_S1x1x200x50_2_1_0_0
abbrev r0_36 : Rect S8x3x200x50 := Rect.unit (s := S8x3x200x50) ![2, 2, 0, 0] S1x1x200x50.size inb_S8x3x200x50_S1x1x200x50_2_2_0_0
abbrev r0_37 : Rect S8x1x1 := Rect.unit (s := S8x1x1) ![2, 0, 0] S1x1x1.size inb_S8x1x1_S1x1x1_2_0_0
abbrev r0_38 : Rect S8x3x200x1 := Rect.unit (s := S8x3x200x1) ![3, 0, 0, 0] S1x1x200x1.size inb_S8x3x200x1_S1x1x200x1_3_0_0_0
abbrev r0_39 : Rect S8x3x200x1 := Rect.unit (s := S8x3x200x1) ![3, 1, 0, 0] S1x1x200x1.size inb_S8x3x200x1_S1x1x200x1_3_1_0_0
abbrev r0_40 : Rect S8x3x200x1 := Rect.unit (s := S8x3x200x1) ![3, 2, 0, 0] S1x1x200x1.size inb_S8x3x200x1_S1x1x200x1_3_2_0_0
abbrev r0_41 : Rect S8x200x200 := Rect.unit (s := S8x200x200) ![3, 0, 0] S1x200x200.size inb_S8x200x200_S1x200x200_3_0_0
abbrev r0_42 : Rect S8x1x50 := Rect.unit (s := S8x1x50) ![3, 0, 0] S1x1x50.size inb_S8x1x50_S1x1x50_3_0_0
abbrev r0_43 : Rect S8x3x200x50 := Rect.unit (s := S8x3x200x50) ![3, 0, 0, 0] S1x1x200x50.size inb_S8x3x200x50_S1x1x200x50_3_0_0_0
abbrev r0_44 : Rect S8x3x200x50 := Rect.unit (s := S8x3x200x50) ![3, 1, 0, 0] S1x1x200x50.size inb_S8x3x200x50_S1x1x200x50_3_1_0_0
abbrev r0_45 : Rect S8x3x200x50 := Rect.unit (s := S8x3x200x50) ![3, 2, 0, 0] S1x1x200x50.size inb_S8x3x200x50_S1x1x200x50_3_2_0_0
abbrev r0_46 : Rect S8x1x1 := Rect.unit (s := S8x1x1) ![3, 0, 0] S1x1x1.size inb_S8x1x1_S1x1x1_3_0_0
abbrev r0_47 : Rect S8x3x200x1 := Rect.unit (s := S8x3x200x1) ![4, 0, 0, 0] S1x1x200x1.size inb_S8x3x200x1_S1x1x200x1_4_0_0_0
abbrev r0_48 : Rect S8x3x200x1 := Rect.unit (s := S8x3x200x1) ![4, 1, 0, 0] S1x1x200x1.size inb_S8x3x200x1_S1x1x200x1_4_1_0_0
abbrev r0_49 : Rect S8x3x200x1 := Rect.unit (s := S8x3x200x1) ![4, 2, 0, 0] S1x1x200x1.size inb_S8x3x200x1_S1x1x200x1_4_2_0_0
abbrev r0_50 : Rect S8x200x200 := Rect.unit (s := S8x200x200) ![4, 0, 0] S1x200x200.size inb_S8x200x200_S1x200x200_4_0_0
abbrev r0_51 : Rect S8x1x50 := Rect.unit (s := S8x1x50) ![4, 0, 0] S1x1x50.size inb_S8x1x50_S1x1x50_4_0_0
abbrev r0_52 : Rect S8x3x200x50 := Rect.unit (s := S8x3x200x50) ![4, 0, 0, 0] S1x1x200x50.size inb_S8x3x200x50_S1x1x200x50_4_0_0_0
abbrev r0_53 : Rect S8x3x200x50 := Rect.unit (s := S8x3x200x50) ![4, 1, 0, 0] S1x1x200x50.size inb_S8x3x200x50_S1x1x200x50_4_1_0_0
abbrev r0_54 : Rect S8x3x200x50 := Rect.unit (s := S8x3x200x50) ![4, 2, 0, 0] S1x1x200x50.size inb_S8x3x200x50_S1x1x200x50_4_2_0_0
abbrev r0_55 : Rect S8x1x1 := Rect.unit (s := S8x1x1) ![4, 0, 0] S1x1x1.size inb_S8x1x1_S1x1x1_4_0_0
abbrev r0_56 : Rect S8x3x200x1 := Rect.unit (s := S8x3x200x1) ![5, 0, 0, 0] S1x1x200x1.size inb_S8x3x200x1_S1x1x200x1_5_0_0_0
abbrev r0_57 : Rect S8x3x200x1 := Rect.unit (s := S8x3x200x1) ![5, 1, 0, 0] S1x1x200x1.size inb_S8x3x200x1_S1x1x200x1_5_1_0_0
abbrev r0_58 : Rect S8x3x200x1 := Rect.unit (s := S8x3x200x1) ![5, 2, 0, 0] S1x1x200x1.size inb_S8x3x200x1_S1x1x200x1_5_2_0_0
abbrev r0_59 : Rect S8x200x200 := Rect.unit (s := S8x200x200) ![5, 0, 0] S1x200x200.size inb_S8x200x200_S1x200x200_5_0_0
abbrev r0_60 : Rect S8x1x50 := Rect.unit (s := S8x1x50) ![5, 0, 0] S1x1x50.size inb_S8x1x50_S1x1x50_5_0_0
abbrev r0_61 : Rect S8x3x200x50 := Rect.unit (s := S8x3x200x50) ![5, 0, 0, 0] S1x1x200x50.size inb_S8x3x200x50_S1x1x200x50_5_0_0_0
abbrev r0_62 : Rect S8x3x200x50 := Rect.unit (s := S8x3x200x50) ![5, 1, 0, 0] S1x1x200x50.size inb_S8x3x200x50_S1x1x200x50_5_1_0_0
abbrev r0_63 : Rect S8x3x200x50 := Rect.unit (s := S8x3x200x50) ![5, 2, 0, 0] S1x1x200x50.size inb_S8x3x200x50_S1x1x200x50_5_2_0_0
abbrev r0_64 : Rect S8x1x1 := Rect.unit (s := S8x1x1) ![5, 0, 0] S1x1x1.size inb_S8x1x1_S1x1x1_5_0_0
abbrev r0_65 : Rect S8x3x200x1 := Rect.unit (s := S8x3x200x1) ![6, 0, 0, 0] S1x1x200x1.size inb_S8x3x200x1_S1x1x200x1_6_0_0_0
abbrev r0_66 : Rect S8x3x200x1 := Rect.unit (s := S8x3x200x1) ![6, 1, 0, 0] S1x1x200x1.size inb_S8x3x200x1_S1x1x200x1_6_1_0_0
abbrev r0_67 : Rect S8x3x200x1 := Rect.unit (s := S8x3x200x1) ![6, 2, 0, 0] S1x1x200x1.size inb_S8x3x200x1_S1x1x200x1_6_2_0_0
abbrev r0_68 : Rect S8x200x200 := Rect.unit (s := S8x200x200) ![6, 0, 0] S1x200x200.size inb_S8x200x200_S1x200x200_6_0_0
abbrev r0_69 : Rect S8x1x50 := Rect.unit (s := S8x1x50) ![6, 0, 0] S1x1x50.size inb_S8x1x50_S1x1x50_6_0_0
abbrev r0_70 : Rect S8x3x200x50 := Rect.unit (s := S8x3x200x50) ![6, 0, 0, 0] S1x1x200x50.size inb_S8x3x200x50_S1x1x200x50_6_0_0_0
abbrev r0_71 : Rect S8x3x200x50 := Rect.unit (s := S8x3x200x50) ![6, 1, 0, 0] S1x1x200x50.size inb_S8x3x200x50_S1x1x200x50_6_1_0_0
abbrev r0_72 : Rect S8x3x200x50 := Rect.unit (s := S8x3x200x50) ![6, 2, 0, 0] S1x1x200x50.size inb_S8x3x200x50_S1x1x200x50_6_2_0_0
abbrev r0_73 : Rect S8x1x1 := Rect.unit (s := S8x1x1) ![6, 0, 0] S1x1x1.size inb_S8x1x1_S1x1x1_6_0_0
abbrev r0_74 : Rect S8x3x200x1 := Rect.unit (s := S8x3x200x1) ![7, 0, 0, 0] S1x1x200x1.size inb_S8x3x200x1_S1x1x200x1_7_0_0_0
abbrev r0_75 : Rect S8x3x200x1 := Rect.unit (s := S8x3x200x1) ![7, 1, 0, 0] S1x1x200x1.size inb_S8x3x200x1_S1x1x200x1_7_1_0_0
abbrev r0_76 : Rect S8x3x200x1 := Rect.unit (s := S8x3x200x1) ![7, 2, 0, 0] S1x1x200x1.size inb_S8x3x200x1_S1x1x200x1_7_2_0_0
abbrev r0_77 : Rect S8x200x200 := Rect.unit (s := S8x200x200) ![7, 0, 0] S1x200x200.size inb_S8x200x200_S1x200x200_7_0_0
abbrev r0_78 : Rect S8x1x50 := Rect.unit (s := S8x1x50) ![7, 0, 0] S1x1x50.size inb_S8x1x50_S1x1x50_7_0_0
abbrev r0_79 : Rect S8x3x200x50 := Rect.unit (s := S8x3x200x50) ![7, 0, 0, 0] S1x1x200x50.size inb_S8x3x200x50_S1x1x200x50_7_0_0_0
abbrev r0_80 : Rect S8x3x200x50 := Rect.unit (s := S8x3x200x50) ![7, 1, 0, 0] S1x1x200x50.size inb_S8x3x200x50_S1x1x200x50_7_1_0_0
abbrev r0_81 : Rect S8x3x200x50 := Rect.unit (s := S8x3x200x50) ![7, 2, 0, 0] S1x1x200x50.size inb_S8x3x200x50_S1x1x200x50_7_2_0_0
abbrev r0_82 : Rect S8x1x1 := Rect.unit (s := S8x1x1) ![7, 0, 0] S1x1x1.size inb_S8x1x1_S1x1x1_7_0_0

/-! ## What the body leaves in each output window's buffer -/

/-! ### Values of the body that the stores' payloads, spelt out, would write more than once

    Each is a vector the body binds (often a part call's result), stated over the input windows' blocks and
    numbered on from the skeleton's payload functions (`k0_pay145` …, after `k0_pay144`), so that
    `out0_W` and the values after it name it instead of spelling it out; the comment after each is the printed function's
    name for the value (a count appended where that name is bound again). -/

def k0_pay145 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1 .f32 :=
  k0_pay2 (View.ld x0 r0_1) -- `v3`
def k0_pay146 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay4 (k0_pay3 (View.ld x0 r0_0) (View.ld x0 r0_1) (View.ld x0 r0_2) (View.ld x5 r0_3) (View.ld x5 r0_4) (View.ld x5 r0_5) (View.ld x6 r0_6) (View.ld x3 r0_7)) (View.ld x7 r0_8) (View.ld x8 r0_6) -- `v38`
def k0_pay147 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1600 .f32 :=
  k0_pay6 (View.ld x1 r0_9) (View.ld x9 r0_10) (View.ld x10 r0_10) (View.ld x11 r0_8) (View.ld x12 r0_11) -- `v67`
def k0_pay148 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay7 (k0_pay145 x0 x1 x2 x3 x4 x5 x6 x7 x8 x9 x10 x11 x12 x13 x14 x15 x16 x17 x18 x19 x20 x21) (k0_pay146 x0 x1 x2 x3 x4 x5 x6 x7 x8 x9 x10 x11 x12 x13 x14 x15 x16 x17 x18 x19 x20 x21) (k0_pay147 x0 x1 x2 x3 x4 x5 x6 x7 x8 x9 x10 x11 x12 x13 x14 x15 x16 x17 x18 x19 x20 x21) (View.ld x13 r0_12) (View.ld x2 r0_13) (View.ld x2 r0_14) (View.ld x2 r0_15) (View.ld x14 r0_16) (View.ld x15 r0_17) (View.ld x16 r0_18) -- `v100`
def k0_pay149 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1 .f32 :=
  k0_pay18 (View.ld x0 r0_21) -- `v182`
def k0_pay150 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay21 (k0_pay19 (k0_pay17 (View.ld x0 r0_20)) (View.ld x0 r0_21) (View.ld x0 r0_22) (View.ld x5 r0_3) (View.ld x5 r0_4) (View.ld x5 r0_5) (View.ld x6 r0_6) (View.ld x3 r0_23) (View.ld x7 r0_8) (View.ld x8 r0_6)) (k0_pay20 (F := F)) -- `v217`
def k0_pay151 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1600 .f32 :=
  k0_pay23 (View.ld x1 r0_24) (View.ld x9 r0_10) (View.ld x10 r0_10) (View.ld x11 r0_8) (View.ld x12 r0_11) (View.ld x13 r0_12) -- `v249`
def k0_pay152 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .bf16 :=
  k0_pay24 (View.ld x2 r0_25) -- `v251`
def k0_pay153 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay25 (k0_pay149 x0 x1 x2 x3 x4 x5 x6 x7 x8 x9 x10 x11 x12 x13 x14 x15 x16 x17 x18 x19 x20 x21) (k0_pay150 x0 x1 x2 x3 x4 x5 x6 x7 x8 x9 x10 x11 x12 x13 x14 x15 x16 x17 x18 x19 x20 x21) (k0_pay151 x0 x1 x2 x3 x4 x5 x6 x7 x8 x9 x10 x11 x12 x13 x14 x15 x16 x17 x18 x19 x20 x21) (k0_pay152 x0 x1 x2 x3 x4 x5 x6 x7 x8 x9 x10 x11 x12 x13 x14 x15 x16 x17 x18 x19 x20 x21) (View.ld x2 r0_26) (View.ld x2 r0_27) (View.ld x14 r0_16) (View.ld x15 r0_17) (View.ld x16 r0_18) -- `v279`
def k0_pay154 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1 .f32 :=
  k0_pay26 (k0_pay149 x0 x1 x2 x3 x4 x5 x6 x7 x8 x9 x10 x11 x12 x13 x14 x15 x16 x17 x18 x19 x20 x21) (k0_pay150 x0 x1 x2 x3 x4 x5 x6 x7 x8 x9 x10 x11 x12 x13 x14 x15 x16 x17 x18 x19 x20 x21) (k0_pay151 x0 x1 x2 x3 x4 x5 x6 x7 x8 x9 x10 x11 x12 x13 x14 x15 x16 x17 x18 x19 x20 x21) (k0_pay152 x0 x1 x2 x3 x4 x5 x6 x7 x8 x9 x10 x11 x12 x13 x14 x15 x16 x17 x18 x19 x20 x21) (View.ld x2 r0_26) (View.ld x2 r0_27) (View.ld x14 r0_16) (View.ld x15 r0_17) (View.ld x16 r0_18) -- `v284`
def k0_pay155 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1 .f32 :=
  k0_pay28 (k0_pay149 x0 x1 x2 x3 x4 x5 x6 x7 x8 x9 x10 x11 x12 x13 x14 x15 x16 x17 x18 x19 x20 x21) (k0_pay150 x0 x1 x2 x3 x4 x5 x6 x7 x8 x9 x10 x11 x12 x13 x14 x15 x16 x17 x18 x19 x20 x21) (k0_pay151 x0 x1 x2 x3 x4 x5 x6 x7 x8 x9 x10 x11 x12 x13 x14 x15 x16 x17 x18 x19 x20 x21) (k0_pay152 x0 x1 x2 x3 x4 x5 x6 x7 x8 x9 x10 x11 x12 x13 x14 x15 x16 x17 x18 x19 x20 x21) (View.ld x2 r0_26) (View.ld x2 r0_27) (View.ld x14 r0_16) (View.ld x15 r0_17) (View.ld x16 r0_18) -- `v292`
def k0_pay156 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1 .f32 :=
  k0_pay36 (View.ld x0 r0_30) -- `v361`
def k0_pay157 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay38 (k0_pay35 (View.ld x0 r0_29)) (k0_pay156 x0 x1 x2 x3 x4 x5 x6 x7 x8 x9 x10 x11 x12 x13 x14 x15 x16 x17 x18 x19 x20 x21) (k0_pay37 (View.ld x0 r0_31)) (View.ld x5 r0_3) (View.ld x5 r0_4) (View.ld x5 r0_5) (View.ld x6 r0_6) (View.ld x3 r0_32) (View.ld x7 r0_8) (View.ld x8 r0_6) -- `v396`
def k0_pay158 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x50 .f32 :=
  k0_pay39 (View.ld x1 r0_33) -- `v398`
def k0_pay159 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1600 .f32 :=
  k0_pay41 (k0_pay158 x0 x1 x2 x3 x4 x5 x6 x7 x8 x9 x10 x11 x12 x13 x14 x15 x16 x17 x18 x19 x20 x21) (k0_pay40 (View.ld x9 r0_10)) (View.ld x10 r0_10) (View.ld x11 r0_8) (View.ld x12 r0_11) (View.ld x13 r0_12) -- `v428`
def k0_pay160 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .bf16 :=
  k0_pay42 (View.ld x2 r0_34) -- `v430`
def k0_pay161 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .bf16 :=
  k0_pay43 (View.ld x2 r0_35) -- `v432`
def k0_pay162 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .bf16 :=
  k0_pay44 (View.ld x2 r0_36) -- `v434`
def k0_pay163 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay45 (k0_pay156 x0 x1 x2 x3 x4 x5 x6 x7 x8 x9 x10 x11 x12 x13 x14 x15 x16 x17 x18 x19 x20 x21) (k0_pay157 x0 x1 x2 x3 x4 x5 x6 x7 x8 x9 x10 x11 x12 x13 x14 x15 x16 x17 x18 x19 x20 x21) (k0_pay159 x0 x1 x2 x3 x4 x5 x6 x7 x8 x9 x10 x11 x12 x13 x14 x15 x16 x17 x18 x19 x20 x21) (k0_pay160 x0 x1 x2 x3 x4 x5 x6 x7 x8 x9 x10 x11 x12 x13 x14 x15 x16 x17 x18 x19 x20 x21) (k0_pay161 x0 x1 x2 x3 x4 x5 x6 x7 x8 x9 x10 x11 x12 x13 x14 x15 x16 x17 x18 x19 x20 x21) (k0_pay162 x0 x1 x2 x3 x4 x5 x6 x7 x8 x9 x10 x11 x12 x13 x14 x15 x16 x17 x18 x19 x20 x21) (View.ld x14 r0_16) (View.ld x15 r0_17) (View.ld x16 r0_18) -- `v458`
def k0_pay164 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1 .f32 :=
  k0_pay49 (k0_pay156 x0 x1 x2 x3 x4 x5 x6 x7 x8 x9 x10 x11 x12 x13 x14 x15 x16 x17 x18 x19 x20 x21) (k0_pay157 x0 x1 x2 x3 x4 x5 x6 x7 x8 x9 x10 x11 x12 x13 x14 x15 x16 x17 x18 x19 x20 x21) (k0_pay159 x0 x1 x2 x3 x4 x5 x6 x7 x8 x9 x10 x11 x12 x13 x14 x15 x16 x17 x18 x19 x20 x21) (k0_pay160 x0 x1 x2 x3 x4 x5 x6 x7 x8 x9 x10 x11 x12 x13 x14 x15 x16 x17 x18 x19 x20 x21) (k0_pay161 x0 x1 x2 x3 x4 x5 x6 x7 x8 x9 x10 x11 x12 x13 x14 x15 x16 x17 x18 x19 x20 x21) (k0_pay162 x0 x1 x2 x3 x4 x5 x6 x7 x8 x9 x10 x11 x12 x13 x14 x15 x16 x17 x18 x19 x20 x21) (View.ld x14 r0_16) (View.ld x15 r0_17) (View.ld x16 r0_18) -- `v473`
def k0_pay165 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1 .f32 :=
  k0_pay56 (View.ld x0 r0_39) -- `v540`
def k0_pay166 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay61 (k0_pay57 (View.ld x0 r0_40)) (k0_pay58 (View.ld x0 r0_38) (View.ld x5 r0_3)) (k0_pay59 (View.ld x0 r0_39)) (k0_pay60 (View.ld x5 r0_4)) (View.ld x5 r0_5) (View.ld x6 r0_6) (View.ld x3 r0_41) (View.ld x7 r0_8) (View.ld x8 r0_6) -- `v575`
def k0_pay167 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .bf16 :=
  k0_pay64 (View.ld x2 r0_43) -- `v609`
def k0_pay168 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1600 .f32 :=
  k0_pay65 (k0_pay166 x0 x1 x2 x3 x4 x5 x6 x7 x8 x9 x10 x11 x12 x13 x14 x15 x16 x17 x18 x19 x20 x21) (k0_pay63 (View.ld x1 r0_42) (View.ld x9 r0_10) (View.ld x10 r0_10)) (Scalar.ofBits .f32 0x00000000#32) (View.ld x11 r0_8) (View.ld x12 r0_11) (View.ld x13 r0_12) (View.ld x2 r0_43) (View.ld x2 r0_44) (View.ld x2 r0_45) (View.ld x14 r0_16) -- `v620`
def k0_pay169 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1 .f32 :=
  k0_pay70 (k0_pay165 x0 x1 x2 x3 x4 x5 x6 x7 x8 x9 x10 x11 x12 x13 x14 x15 x16 x17 x18 x19 x20 x21) (k0_pay167 x0 x1 x2 x3 x4 x5 x6 x7 x8 x9 x10 x11 x12 x13 x14 x15 x16 x17 x18 x19 x20 x21) (k0_pay168 x0 x1 x2 x3 x4 x5 x6 x7 x8 x9 x10 x11 x12 x13 x14 x15 x16 x17 x18 x19 x20 x21) (View.ld x15 r0_17) (View.ld x16 r0_18) -- `v652`
def k0_pay170 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1 .f32 :=
  k0_pay77 (View.ld x0 r0_48) -- `v719`
def k0_pay171 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay79 (k0_pay78 (View.ld x0 r0_47) (View.ld x0 r0_48) (View.ld x0 r0_49) (View.ld x5 r0_3) (View.ld x5 r0_4) (View.ld x5 r0_5)) (View.ld x6 r0_6) (View.ld x3 r0_50) (View.ld x7 r0_8) (View.ld x8 r0_6) -- `v754`
def k0_pay172 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .bf16 :=
  k0_pay82 (View.ld x2 r0_52) -- `v788`
def k0_pay173 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay83 (k0_pay171 x0 x1 x2 x3 x4 x5 x6 x7 x8 x9 x10 x11 x12 x13 x14 x15 x16 x17 x18 x19 x20 x21) (k0_pay81 (View.ld x1 r0_51) (View.ld x9 r0_10) (View.ld x10 r0_10) (View.ld x11 r0_8)) (View.ld x12 r0_11) (View.ld x13 r0_12) (View.ld x2 r0_52) (View.ld x2 r0_53) (View.ld x2 r0_54) (View.ld x14 r0_16) (View.ld x15 r0_17) -- `v805`
def k0_pay174 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay96 (k0_pay95 (View.ld x0 r0_56) (View.ld x0 r0_57) (View.ld x0 r0_58) (View.ld x5 r0_3) (View.ld x5 r0_4) (View.ld x5 r0_5) (View.ld x6 r0_6)) (View.ld x3 r0_59) (View.ld x7 r0_8) (View.ld x8 r0_6) -- `v933`
def k0_pay175 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay101 (k0_pay174 x0 x1 x2 x3 x4 x5 x6 x7 x8 x9 x10 x11 x12 x13 x14 x15 x16 x17 x18 x19 x20 x21) (k0_pay98 (View.ld x1 r0_60) (View.ld x9 r0_10) (View.ld x10 r0_10) (View.ld x11 r0_8) (View.ld x12 r0_11)) (iota .tc S32x1600 32 [0] iota_S32x1600_d0_w32) k0_pay99 (View.ld x13 r0_12) (View.ld x2 r0_61) (View.ld x2 r0_62) (View.ld x2 r0_63) (View.ld x14 r0_16) (View.ld x15 r0_17) (View.ld x16 r0_18) -- `v988`
def k0_pay176 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay102 (k0_pay94 (View.ld x0 r0_57)) (View.ld x2 r0_61) -- `v991`
def k0_pay177 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1 .f32 :=
  k0_pay112 (View.ld x0 r0_66) -- `v1077`
def k0_pay178 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay114 (k0_pay113 (View.ld x0 r0_65) (View.ld x0 r0_66) (View.ld x0 r0_67) (View.ld x5 r0_3) (View.ld x5 r0_4) (View.ld x5 r0_5) (View.ld x6 r0_6) (View.ld x3 r0_68)) (View.ld x7 r0_8) (View.ld x8 r0_6) -- `v1112`
def k0_pay179 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1600 .f32 :=
  k0_pay116 (View.ld x1 r0_69) (View.ld x9 r0_10) (View.ld x10 r0_10) (View.ld x11 r0_8) (View.ld x12 r0_11) -- `v1141`
def k0_pay180 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay117 (k0_pay177 x0 x1 x2 x3 x4 x5 x6 x7 x8 x9 x10 x11 x12 x13 x14 x15 x16 x17 x18 x19 x20 x21) (k0_pay178 x0 x1 x2 x3 x4 x5 x6 x7 x8 x9 x10 x11 x12 x13 x14 x15 x16 x17 x18 x19 x20 x21) (k0_pay179 x0 x1 x2 x3 x4 x5 x6 x7 x8 x9 x10 x11 x12 x13 x14 x15 x16 x17 x18 x19 x20 x21) (View.ld x13 r0_12) (View.ld x2 r0_70) (View.ld x2 r0_71) (View.ld x2 r0_72) (View.ld x14 r0_16) (View.ld x15 r0_17) (View.ld x16 r0_18) -- `v1174`
def k0_pay181 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x1 .f32 :=
  k0_pay128 (View.ld x0 r0_75) -- `v1256`
def k0_pay182 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x32 .f32 :=
  k0_pay131 (k0_pay129 (k0_pay127 (View.ld x0 r0_74)) (View.ld x0 r0_75) (View.ld x0 r0_76) (View.ld x5 r0_3) (View.ld x5 r0_4) (View.ld x5 r0_5) (View.ld x6 r0_6) (View.ld x3 r0_77) (View.ld x7 r0_8) (View.ld x8 r0_6)) (k0_pay130 (F := F)) -- `v1291`
def k0_pay183 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1600 .f32 :=
  k0_pay133 (View.ld x1 r0_78) (View.ld x9 r0_10) (View.ld x10 r0_10) (View.ld x11 r0_8) (View.ld x12 r0_11) (View.ld x13 r0_12) -- `v1323`
def k0_pay184 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .bf16 :=
  k0_pay134 (View.ld x2 r0_79) -- `v1325`
def k0_pay185 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S200x50 .f32 :=
  k0_pay135 (k0_pay181 x0 x1 x2 x3 x4 x5 x6 x7 x8 x9 x10 x11 x12 x13 x14 x15 x16 x17 x18 x19 x20 x21) (k0_pay182 x0 x1 x2 x3 x4 x5 x6 x7 x8 x9 x10 x11 x12 x13 x14 x15 x16 x17 x18 x19 x20 x21) (k0_pay183 x0 x1 x2 x3 x4 x5 x6 x7 x8 x9 x10 x11 x12 x13 x14 x15 x16 x17 x18 x19 x20 x21) (k0_pay184 x0 x1 x2 x3 x4 x5 x6 x7 x8 x9 x10 x11 x12 x13 x14 x15 x16 x17 x18 x19 x20 x21) (View.ld x2 r0_80) (View.ld x2 r0_81) (View.ld x14 r0_16) (View.ld x15 r0_17) (View.ld x16 r0_18) -- `v1353`
def k0_pay186 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1 .f32 :=
  k0_pay136 (k0_pay181 x0 x1 x2 x3 x4 x5 x6 x7 x8 x9 x10 x11 x12 x13 x14 x15 x16 x17 x18 x19 x20 x21) (k0_pay182 x0 x1 x2 x3 x4 x5 x6 x7 x8 x9 x10 x11 x12 x13 x14 x15 x16 x17 x18 x19 x20 x21) (k0_pay183 x0 x1 x2 x3 x4 x5 x6 x7 x8 x9 x10 x11 x12 x13 x14 x15 x16 x17 x18 x19 x20 x21) (k0_pay184 x0 x1 x2 x3 x4 x5 x6 x7 x8 x9 x10 x11 x12 x13 x14 x15 x16 x17 x18 x19 x20 x21) (View.ld x2 r0_80) (View.ld x2 r0_81) (View.ld x14 r0_16) (View.ld x15 r0_17) (View.ld x16 r0_18) -- `v1358`
def k0_pay187 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : FVec F S1x1 .f32 :=
  k0_pay138 (k0_pay181 x0 x1 x2 x3 x4 x5 x6 x7 x8 x9 x10 x11 x12 x13 x14 x15 x16 x17 x18 x19 x20 x21) (k0_pay182 x0 x1 x2 x3 x4 x5 x6 x7 x8 x9 x10 x11 x12 x13 x14 x15 x16 x17 x18 x19 x20 x21) (k0_pay183 x0 x1 x2 x3 x4 x5 x6 x7 x8 x9 x10 x11 x12 x13 x14 x15 x16 x17 x18 x19 x20 x21) (k0_pay184 x0 x1 x2 x3 x4 x5 x6 x7 x8 x9 x10 x11 x12 x13 x14 x15 x16 x17 x18 x19 x20 x21) (View.ld x2 r0_80) (View.ld x2 r0_81) (View.ld x14 r0_16) (View.ld x15 r0_17) (View.ld x16 r0_18) -- `v1366`

/-- Window 22's staging buffer after the body, from the input windows' blocks: its 8 stores as pieces, LAST
    FIRST (Lib/Pipeline/FrameBody.lean `View.canon`; the payloads are the skeleton's and the values stated above). -/
def out0_22 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : Vec F S8x1x1 .f32 :=
  View.canon [⟨r0_82, k0_pay140 (k0_pay185 x0 x1 x2 x3 x4 x5 x6 x7 x8 x9 x10 x11 x12 x13 x14 x15 x16 x17 x18 x19 x20 x21) (k0_pay186 x0 x1 x2 x3 x4 x5 x6 x7 x8 x9 x10 x11 x12 x13 x14 x15 x16 x17 x18 x19 x20 x21) (k0_pay187 x0 x1 x2 x3 x4 x5 x6 x7 x8 x9 x10 x11 x12 x13 x14 x15 x16 x17 x18 x19 x20 x21) (View.ld x4 r0_82)⟩,
    ⟨r0_73, k0_pay123 (k0_pay180 x0 x1 x2 x3 x4 x5 x6 x7 x8 x9 x10 x11 x12 x13 x14 x15 x16 x17 x18 x19 x20 x21) (k0_pay118 (k0_pay177 x0 x1 x2 x3 x4 x5 x6 x7 x8 x9 x10 x11 x12 x13 x14 x15 x16 x17 x18 x19 x20 x21) (k0_pay178 x0 x1 x2 x3 x4 x5 x6 x7 x8 x9 x10 x11 x12 x13 x14 x15 x16 x17 x18 x19 x20 x21) (k0_pay179 x0 x1 x2 x3 x4 x5 x6 x7 x8 x9 x10 x11 x12 x13 x14 x15 x16 x17 x18 x19 x20 x21) (View.ld x13 r0_12) (View.ld x2 r0_70) (View.ld x2 r0_71) (View.ld x2 r0_72) (View.ld x14 r0_16) (View.ld x15 r0_17) (View.ld x16 r0_18)) (View.ld x4 r0_73)⟩,
    ⟨r0_64, k0_pay108 (k0_pay175 x0 x1 x2 x3 x4 x5 x6 x7 x8 x9 x10 x11 x12 x13 x14 x15 x16 x17 x18 x19 x20 x21) (k0_pay176 x0 x1 x2 x3 x4 x5 x6 x7 x8 x9 x10 x11 x12 x13 x14 x15 x16 x17 x18 x19 x20 x21) (Scalar.ofBits .f32 0x00000000#32) (View.ld x4 r0_64)⟩,
    ⟨r0_55, k0_pay90 (k0_pay89 (k0_pay170 x0 x1 x2 x3 x4 x5 x6 x7 x8 x9 x10 x11 x12 x13 x14 x15 x16 x17 x18 x19 x20 x21) (k0_pay172 x0 x1 x2 x3 x4 x5 x6 x7 x8 x9 x10 x11 x12 x13 x14 x15 x16 x17 x18 x19 x20 x21) (k0_pay173 x0 x1 x2 x3 x4 x5 x6 x7 x8 x9 x10 x11 x12 x13 x14 x15 x16 x17 x18 x19 x20 x21) (View.ld x16 r0_18) (View.ld x4 r0_55))⟩,
    ⟨r0_46, k0_pay72 (k0_pay169 x0 x1 x2 x3 x4 x5 x6 x7 x8 x9 x10 x11 x12 x13 x14 x15 x16 x17 x18 x19 x20 x21) (k0_pay71 (k0_pay165 x0 x1 x2 x3 x4 x5 x6 x7 x8 x9 x10 x11 x12 x13 x14 x15 x16 x17 x18 x19 x20 x21) (k0_pay167 x0 x1 x2 x3 x4 x5 x6 x7 x8 x9 x10 x11 x12 x13 x14 x15 x16 x17 x18 x19 x20 x21) (k0_pay168 x0 x1 x2 x3 x4 x5 x6 x7 x8 x9 x10 x11 x12 x13 x14 x15 x16 x17 x18 x19 x20 x21) (View.ld x15 r0_17) (View.ld x16 r0_18) (View.ld x4 r0_46))⟩,
    ⟨r0_37, k0_pay51 (k0_pay163 x0 x1 x2 x3 x4 x5 x6 x7 x8 x9 x10 x11 x12 x13 x14 x15 x16 x17 x18 x19 x20 x21) (k0_pay164 x0 x1 x2 x3 x4 x5 x6 x7 x8 x9 x10 x11 x12 x13 x14 x15 x16 x17 x18 x19 x20 x21) (extractAt ![0, 0, 0] (View.ld x4 r0_37) inpos_S1x1x1_p0_0_0) (iota .tc S200x50 32 [0] iota_S200x50_d0_w32) k0_pay50⟩,
    ⟨r0_28, k0_pay30 (k0_pay153 x0 x1 x2 x3 x4 x5 x6 x7 x8 x9 x10 x11 x12 x13 x14 x15 x16 x17 x18 x19 x20 x21) (k0_pay154 x0 x1 x2 x3 x4 x5 x6 x7 x8 x9 x10 x11 x12 x13 x14 x15 x16 x17 x18 x19 x20 x21) (k0_pay155 x0 x1 x2 x3 x4 x5 x6 x7 x8 x9 x10 x11 x12 x13 x14 x15 x16 x17 x18 x19 x20 x21) (View.ld x4 r0_28)⟩,
    ⟨r0_19, k0_pay13 (k0_pay148 x0 x1 x2 x3 x4 x5 x6 x7 x8 x9 x10 x11 x12 x13 x14 x15 x16 x17 x18 x19 x20 x21) (k0_pay8 (k0_pay145 x0 x1 x2 x3 x4 x5 x6 x7 x8 x9 x10 x11 x12 x13 x14 x15 x16 x17 x18 x19 x20 x21) (k0_pay146 x0 x1 x2 x3 x4 x5 x6 x7 x8 x9 x10 x11 x12 x13 x14 x15 x16 x17 x18 x19 x20 x21) (k0_pay147 x0 x1 x2 x3 x4 x5 x6 x7 x8 x9 x10 x11 x12 x13 x14 x15 x16 x17 x18 x19 x20 x21) (View.ld x13 r0_12) (View.ld x2 r0_13) (View.ld x2 r0_14) (View.ld x2 r0_15) (View.ld x14 r0_16) (View.ld x15 r0_17) (View.ld x16 r0_18)) (View.ld x4 r0_19)⟩]

/-- Its stores tile the buffer (checked by evaluation), so they cover it. -/
theorem cover0_22 (p0 : Vec F S1x1x1 .f32) (p1 : Vec F S1x1x1 .f32) (p2 : Vec F S1x1x1 .f32) (p3 : Vec F S1x1x1 .f32) (p4 : Vec F S1x1x1 .f32) (p5 : Vec F S1x1x1 .f32) (p6 : Vec F S1x1x1 .f32) (p7 : Vec F S1x1x1 .f32) (y : S8x1x1.Idx) :
    ∃ pc ∈ ([⟨r0_82, p0⟩, ⟨r0_73, p1⟩, ⟨r0_64, p2⟩, ⟨r0_55, p3⟩, ⟨r0_46, p4⟩, ⟨r0_37, p5⟩, ⟨r0_28, p6⟩, ⟨r0_19, p7⟩] : List (View.Piece (Elt F) S8x1x1 .f32)), y ∈ pc.1.set :=
  View.cover_of_tiled [⟨r0_82, p0⟩, ⟨r0_73, p1⟩, ⟨r0_64, p2⟩, ⟨r0_55, p3⟩, ⟨r0_46, p4⟩, ⟨r0_37, p5⟩, ⟨r0_28, p6⟩, ⟨r0_19, p7⟩] S1x1x1.size (by rfl) y

/-- Window 23's staging buffer after the body, from the input windows' blocks: its 8 stores as pieces, LAST
    FIRST (Lib/Pipeline/FrameBody.lean `View.canon`; the payloads are the skeleton's and the values stated above). -/
def out0_23 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : Vec F S8x1x1 .f32 :=
  View.canon [⟨r0_82, k0_pay141 (k0_pay185 x0 x1 x2 x3 x4 x5 x6 x7 x8 x9 x10 x11 x12 x13 x14 x15 x16 x17 x18 x19 x20 x21) (k0_pay186 x0 x1 x2 x3 x4 x5 x6 x7 x8 x9 x10 x11 x12 x13 x14 x15 x16 x17 x18 x19 x20 x21) (k0_pay137 (k0_pay181 x0 x1 x2 x3 x4 x5 x6 x7 x8 x9 x10 x11 x12 x13 x14 x15 x16 x17 x18 x19 x20 x21) (k0_pay182 x0 x1 x2 x3 x4 x5 x6 x7 x8 x9 x10 x11 x12 x13 x14 x15 x16 x17 x18 x19 x20 x21) (k0_pay183 x0 x1 x2 x3 x4 x5 x6 x7 x8 x9 x10 x11 x12 x13 x14 x15 x16 x17 x18 x19 x20 x21) (k0_pay184 x0 x1 x2 x3 x4 x5 x6 x7 x8 x9 x10 x11 x12 x13 x14 x15 x16 x17 x18 x19 x20 x21) (View.ld x2 r0_80) (View.ld x2 r0_81) (View.ld x14 r0_16) (View.ld x15 r0_17) (View.ld x16 r0_18)) (k0_pay187 x0 x1 x2 x3 x4 x5 x6 x7 x8 x9 x10 x11 x12 x13 x14 x15 x16 x17 x18 x19 x20 x21)⟩,
    ⟨r0_73, k0_pay124 (k0_pay180 x0 x1 x2 x3 x4 x5 x6 x7 x8 x9 x10 x11 x12 x13 x14 x15 x16 x17 x18 x19 x20 x21) (k0_pay118 (k0_pay177 x0 x1 x2 x3 x4 x5 x6 x7 x8 x9 x10 x11 x12 x13 x14 x15 x16 x17 x18 x19 x20 x21) (k0_pay178 x0 x1 x2 x3 x4 x5 x6 x7 x8 x9 x10 x11 x12 x13 x14 x15 x16 x17 x18 x19 x20 x21) (k0_pay179 x0 x1 x2 x3 x4 x5 x6 x7 x8 x9 x10 x11 x12 x13 x14 x15 x16 x17 x18 x19 x20 x21) (View.ld x13 r0_12) (View.ld x2 r0_70) (View.ld x2 r0_71) (View.ld x2 r0_72) (View.ld x14 r0_16) (View.ld x15 r0_17) (View.ld x16 r0_18))⟩,
    ⟨r0_64, k0_pay110 (k0_pay107 (k0_pay175 x0 x1 x2 x3 x4 x5 x6 x7 x8 x9 x10 x11 x12 x13 x14 x15 x16 x17 x18 x19 x20 x21) (k0_pay176 x0 x1 x2 x3 x4 x5 x6 x7 x8 x9 x10 x11 x12 x13 x14 x15 x16 x17 x18 x19 x20 x21) (Scalar.ofBits .f32 0x00000000#32)) (k0_pay109 (k0_pay175 x0 x1 x2 x3 x4 x5 x6 x7 x8 x9 x10 x11 x12 x13 x14 x15 x16 x17 x18 x19 x20 x21) (k0_pay176 x0 x1 x2 x3 x4 x5 x6 x7 x8 x9 x10 x11 x12 x13 x14 x15 x16 x17 x18 x19 x20 x21) (Scalar.ofBits .f32 0x00000000#32))⟩,
    ⟨r0_55, k0_pay91 (k0_pay84 (k0_pay170 x0 x1 x2 x3 x4 x5 x6 x7 x8 x9 x10 x11 x12 x13 x14 x15 x16 x17 x18 x19 x20 x21) (k0_pay172 x0 x1 x2 x3 x4 x5 x6 x7 x8 x9 x10 x11 x12 x13 x14 x15 x16 x17 x18 x19 x20 x21) (k0_pay173 x0 x1 x2 x3 x4 x5 x6 x7 x8 x9 x10 x11 x12 x13 x14 x15 x16 x17 x18 x19 x20 x21) (View.ld x16 r0_18)) (k0_pay86 (k0_pay170 x0 x1 x2 x3 x4 x5 x6 x7 x8 x9 x10 x11 x12 x13 x14 x15 x16 x17 x18 x19 x20 x21) (k0_pay172 x0 x1 x2 x3 x4 x5 x6 x7 x8 x9 x10 x11 x12 x13 x14 x15 x16 x17 x18 x19 x20 x21) (k0_pay173 x0 x1 x2 x3 x4 x5 x6 x7 x8 x9 x10 x11 x12 x13 x14 x15 x16 x17 x18 x19 x20 x21) (View.ld x16 r0_18)) (k0_pay87 (k0_pay170 x0 x1 x2 x3 x4 x5 x6 x7 x8 x9 x10 x11 x12 x13 x14 x15 x16 x17 x18 x19 x20 x21) (k0_pay172 x0 x1 x2 x3 x4 x5 x6 x7 x8 x9 x10 x11 x12 x13 x14 x15 x16 x17 x18 x19 x20 x21) (k0_pay173 x0 x1 x2 x3 x4 x5 x6 x7 x8 x9 x10 x11 x12 x13 x14 x15 x16 x17 x18 x19 x20 x21) (View.ld x16 r0_18)) (k0_pay88 (k0_pay170 x0 x1 x2 x3 x4 x5 x6 x7 x8 x9 x10 x11 x12 x13 x14 x15 x16 x17 x18 x19 x20 x21) (k0_pay172 x0 x1 x2 x3 x4 x5 x6 x7 x8 x9 x10 x11 x12 x13 x14 x15 x16 x17 x18 x19 x20 x21) (k0_pay173 x0 x1 x2 x3 x4 x5 x6 x7 x8 x9 x10 x11 x12 x13 x14 x15 x16 x17 x18 x19 x20 x21) (View.ld x16 r0_18))⟩,
    ⟨r0_46, k0_pay73 (k0_pay66 (k0_pay165 x0 x1 x2 x3 x4 x5 x6 x7 x8 x9 x10 x11 x12 x13 x14 x15 x16 x17 x18 x19 x20 x21) (k0_pay167 x0 x1 x2 x3 x4 x5 x6 x7 x8 x9 x10 x11 x12 x13 x14 x15 x16 x17 x18 x19 x20 x21) (k0_pay168 x0 x1 x2 x3 x4 x5 x6 x7 x8 x9 x10 x11 x12 x13 x14 x15 x16 x17 x18 x19 x20 x21) (View.ld x15 r0_17) (View.ld x16 r0_18)) (k0_pay68 (k0_pay165 x0 x1 x2 x3 x4 x5 x6 x7 x8 x9 x10 x11 x12 x13 x14 x15 x16 x17 x18 x19 x20 x21) (k0_pay167 x0 x1 x2 x3 x4 x5 x6 x7 x8 x9 x10 x11 x12 x13 x14 x15 x16 x17 x18 x19 x20 x21) (k0_pay168 x0 x1 x2 x3 x4 x5 x6 x7 x8 x9 x10 x11 x12 x13 x14 x15 x16 x17 x18 x19 x20 x21) (View.ld x15 r0_17) (View.ld x16 r0_18)) (k0_pay69 (k0_pay165 x0 x1 x2 x3 x4 x5 x6 x7 x8 x9 x10 x11 x12 x13 x14 x15 x16 x17 x18 x19 x20 x21) (k0_pay167 x0 x1 x2 x3 x4 x5 x6 x7 x8 x9 x10 x11 x12 x13 x14 x15 x16 x17 x18 x19 x20 x21) (k0_pay168 x0 x1 x2 x3 x4 x5 x6 x7 x8 x9 x10 x11 x12 x13 x14 x15 x16 x17 x18 x19 x20 x21) (View.ld x15 r0_17) (View.ld x16 r0_18)) (k0_pay169 x0 x1 x2 x3 x4 x5 x6 x7 x8 x9 x10 x11 x12 x13 x14 x15 x16 x17 x18 x19 x20 x21)⟩,
    ⟨r0_37, k0_pay52 (k0_pay163 x0 x1 x2 x3 x4 x5 x6 x7 x8 x9 x10 x11 x12 x13 x14 x15 x16 x17 x18 x19 x20 x21) (k0_pay47 (k0_pay156 x0 x1 x2 x3 x4 x5 x6 x7 x8 x9 x10 x11 x12 x13 x14 x15 x16 x17 x18 x19 x20 x21) (k0_pay157 x0 x1 x2 x3 x4 x5 x6 x7 x8 x9 x10 x11 x12 x13 x14 x15 x16 x17 x18 x19 x20 x21) (k0_pay159 x0 x1 x2 x3 x4 x5 x6 x7 x8 x9 x10 x11 x12 x13 x14 x15 x16 x17 x18 x19 x20 x21) (k0_pay160 x0 x1 x2 x3 x4 x5 x6 x7 x8 x9 x10 x11 x12 x13 x14 x15 x16 x17 x18 x19 x20 x21) (k0_pay161 x0 x1 x2 x3 x4 x5 x6 x7 x8 x9 x10 x11 x12 x13 x14 x15 x16 x17 x18 x19 x20 x21) (k0_pay162 x0 x1 x2 x3 x4 x5 x6 x7 x8 x9 x10 x11 x12 x13 x14 x15 x16 x17 x18 x19 x20 x21) (View.ld x14 r0_16) (View.ld x15 r0_17) (View.ld x16 r0_18)) (k0_pay48 (k0_pay156 x0 x1 x2 x3 x4 x5 x6 x7 x8 x9 x10 x11 x12 x13 x14 x15 x16 x17 x18 x19 x20 x21) (k0_pay157 x0 x1 x2 x3 x4 x5 x6 x7 x8 x9 x10 x11 x12 x13 x14 x15 x16 x17 x18 x19 x20 x21) (k0_pay159 x0 x1 x2 x3 x4 x5 x6 x7 x8 x9 x10 x11 x12 x13 x14 x15 x16 x17 x18 x19 x20 x21) (k0_pay160 x0 x1 x2 x3 x4 x5 x6 x7 x8 x9 x10 x11 x12 x13 x14 x15 x16 x17 x18 x19 x20 x21) (k0_pay161 x0 x1 x2 x3 x4 x5 x6 x7 x8 x9 x10 x11 x12 x13 x14 x15 x16 x17 x18 x19 x20 x21) (k0_pay162 x0 x1 x2 x3 x4 x5 x6 x7 x8 x9 x10 x11 x12 x13 x14 x15 x16 x17 x18 x19 x20 x21) (View.ld x14 r0_16) (View.ld x15 r0_17) (View.ld x16 r0_18)) (k0_pay164 x0 x1 x2 x3 x4 x5 x6 x7 x8 x9 x10 x11 x12 x13 x14 x15 x16 x17 x18 x19 x20 x21)⟩,
    ⟨r0_28, k0_pay31 (k0_pay153 x0 x1 x2 x3 x4 x5 x6 x7 x8 x9 x10 x11 x12 x13 x14 x15 x16 x17 x18 x19 x20 x21) (k0_pay154 x0 x1 x2 x3 x4 x5 x6 x7 x8 x9 x10 x11 x12 x13 x14 x15 x16 x17 x18 x19 x20 x21) (k0_pay27 (k0_pay149 x0 x1 x2 x3 x4 x5 x6 x7 x8 x9 x10 x11 x12 x13 x14 x15 x16 x17 x18 x19 x20 x21) (k0_pay150 x0 x1 x2 x3 x4 x5 x6 x7 x8 x9 x10 x11 x12 x13 x14 x15 x16 x17 x18 x19 x20 x21) (k0_pay151 x0 x1 x2 x3 x4 x5 x6 x7 x8 x9 x10 x11 x12 x13 x14 x15 x16 x17 x18 x19 x20 x21) (k0_pay152 x0 x1 x2 x3 x4 x5 x6 x7 x8 x9 x10 x11 x12 x13 x14 x15 x16 x17 x18 x19 x20 x21) (View.ld x2 r0_26) (View.ld x2 r0_27) (View.ld x14 r0_16) (View.ld x15 r0_17) (View.ld x16 r0_18)) (k0_pay155 x0 x1 x2 x3 x4 x5 x6 x7 x8 x9 x10 x11 x12 x13 x14 x15 x16 x17 x18 x19 x20 x21)⟩,
    ⟨r0_19, k0_pay14 (k0_pay148 x0 x1 x2 x3 x4 x5 x6 x7 x8 x9 x10 x11 x12 x13 x14 x15 x16 x17 x18 x19 x20 x21) (k0_pay8 (k0_pay145 x0 x1 x2 x3 x4 x5 x6 x7 x8 x9 x10 x11 x12 x13 x14 x15 x16 x17 x18 x19 x20 x21) (k0_pay146 x0 x1 x2 x3 x4 x5 x6 x7 x8 x9 x10 x11 x12 x13 x14 x15 x16 x17 x18 x19 x20 x21) (k0_pay147 x0 x1 x2 x3 x4 x5 x6 x7 x8 x9 x10 x11 x12 x13 x14 x15 x16 x17 x18 x19 x20 x21) (View.ld x13 r0_12) (View.ld x2 r0_13) (View.ld x2 r0_14) (View.ld x2 r0_15) (View.ld x14 r0_16) (View.ld x15 r0_17) (View.ld x16 r0_18))⟩]

/-- Its stores tile the buffer (checked by evaluation), so they cover it. -/
theorem cover0_23 (p0 : Vec F S1x1x1 .f32) (p1 : Vec F S1x1x1 .f32) (p2 : Vec F S1x1x1 .f32) (p3 : Vec F S1x1x1 .f32) (p4 : Vec F S1x1x1 .f32) (p5 : Vec F S1x1x1 .f32) (p6 : Vec F S1x1x1 .f32) (p7 : Vec F S1x1x1 .f32) (y : S8x1x1.Idx) :
    ∃ pc ∈ ([⟨r0_82, p0⟩, ⟨r0_73, p1⟩, ⟨r0_64, p2⟩, ⟨r0_55, p3⟩, ⟨r0_46, p4⟩, ⟨r0_37, p5⟩, ⟨r0_28, p6⟩, ⟨r0_19, p7⟩] : List (View.Piece (Elt F) S8x1x1 .f32)), y ∈ pc.1.set :=
  View.cover_of_tiled [⟨r0_82, p0⟩, ⟨r0_73, p1⟩, ⟨r0_64, p2⟩, ⟨r0_55, p3⟩, ⟨r0_46, p4⟩, ⟨r0_37, p5⟩, ⟨r0_28, p6⟩, ⟨r0_19, p7⟩] S1x1x1.size (by rfl) y

/-- Window 24's staging buffer after the body, from the input windows' blocks: its 8 stores as pieces, LAST
    FIRST (Lib/Pipeline/FrameBody.lean `View.canon`; the payloads are the skeleton's and the values stated above). -/
def out0_24 (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) : Vec F S8x1x1 .f32 :=
  View.canon [⟨r0_82, k0_pay1 (k0_pay144 (k0_pay142 (k0_pay182 x0 x1 x2 x3 x4 x5 x6 x7 x8 x9 x10 x11 x12 x13 x14 x15 x16 x17 x18 x19 x20 x21)) (k0_pay143 (k0_pay132 (View.ld x1 r0_78))) (View.ld x17 r0_8) (View.ld x18 r0_6) (View.ld x19 r0_6)) (Scalar.ofBits .f32 0x00000000#32) (View.ld x20 r0_10) (View.ld x21 r0_18)⟩,
    ⟨r0_73, k0_pay126 (k0_pay115 (View.ld x1 r0_69)) (k0_pay125 (k0_pay178 x0 x1 x2 x3 x4 x5 x6 x7 x8 x9 x10 x11 x12 x13 x14 x15 x16 x17 x18 x19 x20 x21)) (View.ld x17 r0_8) (View.ld x18 r0_6) (View.ld x19 r0_6) (View.ld x20 r0_10) (View.ld x21 r0_18)⟩,
    ⟨r0_64, k0_pay111 (k0_pay174 x0 x1 x2 x3 x4 x5 x6 x7 x8 x9 x10 x11 x12 x13 x14 x15 x16 x17 x18 x19 x20 x21) (k0_pay97 (View.ld x1 r0_60)) (View.ld x17 r0_8) (View.ld x18 r0_6) (View.ld x19 r0_6) (View.ld x20 r0_10) (View.ld x21 r0_18)⟩,
    ⟨r0_55, k0_pay93 (k0_pay92 (k0_pay171 x0 x1 x2 x3 x4 x5 x6 x7 x8 x9 x10 x11 x12 x13 x14 x15 x16 x17 x18 x19 x20 x21) (k0_pay80 (View.ld x1 r0_51)) (View.ld x17 r0_8) (View.ld x18 r0_6) (View.ld x19 r0_6) (View.ld x20 r0_10)) (View.ld x21 r0_18)⟩,
    ⟨r0_46, k0_pay76 (k0_pay74 (k0_pay166 x0 x1 x2 x3 x4 x5 x6 x7 x8 x9 x10 x11 x12 x13 x14 x15 x16 x17 x18 x19 x20 x21) (k0_pay62 (View.ld x1 r0_42)) (View.ld x17 r0_8) (View.ld x18 r0_6)) (k0_pay75 (View.ld x19 r0_6)) (View.ld x20 r0_10) (View.ld x21 r0_18)⟩,
    ⟨r0_37, k0_pay55 (k0_pay53 (k0_pay158 x0 x1 x2 x3 x4 x5 x6 x7 x8 x9 x10 x11 x12 x13 x14 x15 x16 x17 x18 x19 x20 x21)) (k0_pay54 (k0_pay157 x0 x1 x2 x3 x4 x5 x6 x7 x8 x9 x10 x11 x12 x13 x14 x15 x16 x17 x18 x19 x20 x21) (View.ld x17 r0_8)) (View.ld x18 r0_6) (View.ld x19 r0_6) (View.ld x20 r0_10) (View.ld x21 r0_18)⟩,
    ⟨r0_28, k0_pay34 (k0_pay32 (k0_pay150 x0 x1 x2 x3 x4 x5 x6 x7 x8 x9 x10 x11 x12 x13 x14 x15 x16 x17 x18 x19 x20 x21)) (k0_pay33 (k0_pay22 (View.ld x1 r0_24))) (View.ld x17 r0_8) (View.ld x18 r0_6) (View.ld x19 r0_6) (View.ld x20 r0_10) (View.ld x21 r0_18)⟩,
    ⟨r0_19, k0_pay16 (k0_pay5 (View.ld x1 r0_9)) (k0_pay15 (k0_pay146 x0 x1 x2 x3 x4 x5 x6 x7 x8 x9 x10 x11 x12 x13 x14 x15 x16 x17 x18 x19 x20 x21)) (View.ld x17 r0_8) (View.ld x18 r0_6) (View.ld x19 r0_6) (View.ld x20 r0_10) (View.ld x21 r0_18)⟩]

/-- Its stores tile the buffer (checked by evaluation), so they cover it. -/
theorem cover0_24 (p0 : Vec F S1x1x1 .f32) (p1 : Vec F S1x1x1 .f32) (p2 : Vec F S1x1x1 .f32) (p3 : Vec F S1x1x1 .f32) (p4 : Vec F S1x1x1 .f32) (p5 : Vec F S1x1x1 .f32) (p6 : Vec F S1x1x1 .f32) (p7 : Vec F S1x1x1 .f32) (y : S8x1x1.Idx) :
    ∃ pc ∈ ([⟨r0_82, p0⟩, ⟨r0_73, p1⟩, ⟨r0_64, p2⟩, ⟨r0_55, p3⟩, ⟨r0_46, p4⟩, ⟨r0_37, p5⟩, ⟨r0_28, p6⟩, ⟨r0_19, p7⟩] : List (View.Piece (Elt F) S8x1x1 .f32)), y ∈ pc.1.set :=
  View.cover_of_tiled [⟨r0_82, p0⟩, ⟨r0_73, p1⟩, ⟨r0_64, p2⟩, ⟨r0_55, p3⟩, ⟨r0_46, p4⟩, ⟨r0_37, p5⟩, ⟨r0_28, p6⟩, ⟨r0_19, p7⟩] S1x1x1.size (by rfl) y

/-! ## The body's triple -/

set_option maxHeartbeats 1752000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S8x3x200x1 .f32) (harg1 : arg1.IsWhole) (arg2 : Memref sig .tc .vmem S8x1x50 .f32) (harg2 : arg2.IsWhole) (arg3 : Memref sig .tc .vmem S8x3x200x50 .bf16) (harg3 : arg3.IsWhole) (arg4 : Memref sig .tc .vmem S8x200x200 .bf16) (harg4 : arg4.IsWhole) (arg5 : Memref sig .tc .vmem S8x1x1 .i32) (harg5 : arg5.IsWhole) (arg6 : Memref sig .tc .vmem S3x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x32 .f32) (harg12 : arg12.IsWhole) (arg13 : Memref sig .tc .vmem S50x1600 .bf16) (harg13 : arg13.IsWhole) (arg14 : Memref sig .tc .vmem S1x1600 .f32) (harg14 : arg14.IsWhole) (arg15 : Memref sig .tc .vmem S182x1600 .bf16) (harg15 : arg15.IsWhole) (arg16 : Memref sig .tc .vmem S1600x50 .bf16) (harg16 : arg16.IsWhole) (arg17 : Memref sig .tc .vmem S1x1 .f32) (harg17 : arg17.IsWhole) (arg18 : Memref sig .tc .vmem S32x32 .f32) (harg18 : arg18.IsWhole) (arg19 : Memref sig .tc .vmem S1x32 .f32) (harg19 : arg19.IsWhole) (arg20 : Memref sig .tc .vmem S1x32 .f32) (harg20 : arg20.IsWhole) (arg21 : Memref sig .tc .vmem S32x1 .f32) (harg21 : arg21.IsWhole) (arg22 : Memref sig .tc .vmem S1x1 .f32) (harg22 : arg22.IsWhole) (arg23 : Memref sig .tc .vmem S8x1x1 .f32) (harg23 : arg23.IsWhole) (arg24 : Memref sig .tc .vmem S8x1x1 .f32) (harg24 : arg24.IsWhole) (arg25 : Memref sig .tc .vmem S8x1x1 .f32) (harg25 : arg25.IsWhole)
    (x0 : Vec F S8x3x200x1 .f32) (x1 : Vec F S8x1x50 .f32) (x2 : Vec F S8x3x200x50 .bf16) (x3 : Vec F S8x200x200 .bf16) (x4 : Vec F S8x1x1 .i32) (x5 : Vec F S3x32 .f32) (x6 : Vec F S1x32 .f32) (x7 : Vec F S32x32 .f32) (x8 : Vec F S1x32 .f32) (x9 : Vec F S32x1 .f32) (x10 : Vec F S32x1 .f32) (x11 : Vec F S32x32 .f32) (x12 : Vec F S50x1600 .bf16) (x13 : Vec F S1x1600 .f32) (x14 : Vec F S182x1600 .bf16) (x15 : Vec F S1600x50 .bf16) (x16 : Vec F S1x1 .f32) (x17 : Vec F S32x32 .f32) (x18 : Vec F S1x32 .f32) (x19 : Vec F S1x32 .f32) (x20 : Vec F S32x1 .f32) (x21 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (out0_22 x0 x1 x2 x3 x4 x5 x6 x7 x8 x9 x10 x11 x12 x13 x14 x15 x16 x17 x18 x19 x20 x21) ∗ owns (c : Thread nD τ) arg24 fullShare (out0_23 x0 x1 x2 x3 x4 x5 x6 x7 x8 x9 x10 x11 x12 x13 x14 x15 x16 x17 x18 x19 x20 x21) ∗ owns (c : Thread nD τ) arg25 fullShare (out0_24 x0 x1 x2 x3 x4 x5 x6 x7 x8 x9 x10 x11 x12 x13 x14 x15 x16 x17 x18 x19 x20 x21)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__body_eq_skeleton]; unfold cc0__body_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    refine (View.read_writes_eq_canon _ _ _ (cover0_22 _ _ _ _ _ _ _ _)).trans ?_
    rfl
  isplitl [H23]
  · iexists _; isplitr
    swap; · iexact H23
    ipureintro
    refine (View.read_writes_eq_canon _ _ _ (cover0_23 _ _ _ _ _ _ _ _)).trans ?_
    rfl
  iexists _; isplitr
  swap; · iexact H24
  ipureintro
  refine (View.read_writes_eq_canon _ _ _ (cover0_24 _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.KernelIdealValue.lean ====
/-
  The output arrays of `proofs.«01_k».proof.KernelIdeal` after the run, block by block: a hand-kept copy of the
  generated module over the frame in `KernelIdealFrame`. Per output window: what one grid point writes back, that two
  points' blocks are disjoint, so that each block of the final array is what its point wrote; and the run with its
  results named (`run_blocks`).
-/
module

public import proofs.«01_k».proof.Proof.KernelIdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  show (cfg0.win 22).cut (grid0.coords t) ((dats m 0 c).after 22 t) = _
  rw [after0_22]

/-- The index map sends distinct grid points to distinct block indices (decided over the 8 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S64x1x1.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  show (cfg0.win 23).cut (grid0.coords t) ((dats m 0 c).after 23 t) = _
  rw [after0_23]

/-- The index map sends distinct grid points to distinct block indices (decided over the 8 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S64x1x1.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  show (cfg0.win 24).cut (grid0.coords t) ((dats m 0 c).after 24 t) = _
  rw [after0_24]

/-- The index map sends distinct grid points to distinct block indices (decided over the 8 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S64x1x1.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v58_0) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v58_1) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v58_2) = (dats m 0 c).arrAt 24 cfg0.N :=
  (h c).1 24

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 7 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: input window 20 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 20).trans (((dats m 0 c).arrAt_in 20 rfl _).trans ((A_eq m c 20).trans (V_main_arg14 m c)))

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v58_0) = (dats m 0 c).arrAt 22 cfg0.N
      ∧ r.2.mem ((c : Thread nD τ).loc main_v58_1) = (dats m 0 c).arrAt 23 cfg0.N
      ∧ r.2.mem ((c : Thread nD τ).loc main_v58_2) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.KernelIdeal.Value

end
-- ==== Proof.Spec.lean ====
/- The mathematics of the network on extended reals, with neither program in sight: the hidden rows of one sample, its
   masked scores, and the three values taken from them. -/
module

public import Idealize.ShloMosaic.PureOps.Ideal

@[expose] public section

noncomputable section

namespace Cert.Net

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sup {x y : EReal} (hx : IsReal x) (hy : IsReal y) : IsReal (max x y) := by
  rcases le_total x y with h | h
  · rwa [max_eq_right h]
  · rwa [max_eq_left h]

theorem IsReal.zero : IsReal 0 := ⟨0, EReal.coe_zero.symm⟩

/-- A sum of reals, read among the extended reals. -/
theorem coe_sum {ι : Type} (s : Finset ι) (g : ι → ℝ) : ((∑ i ∈ s, g i : ℝ) : EReal) = ∑ i ∈ s, (g i : EReal) :=
  map_sum (⟨⟨(fun r : ℝ => (r : EReal)), EReal.coe_zero⟩, EReal.coe_add⟩ : ℝ →+ EReal) g s

theorem IsReal.sum {ι : Type} (s : Finset ι) {f : ι → EReal} (h : ∀ i, IsReal (f i)) : IsReal (∑ i ∈ s, f i) := by
  choose g hg using h
  refine ⟨∑ i ∈ s, g i, ?_⟩
  rw [coe_sum]
  exact Finset.sum_congr rfl fun i _ => hg i

/-- An extended real whose absolute value is below `⊤` is a real number. -/
theorem IsReal.of_abs_lt_top {x : EReal} (h : max x (-x) < ⊤) : IsReal x := by
  induction x using EReal.rec with
  | bot => simp at h
  | coe r => exact ⟨r, rfl⟩
  | top => simp at h

/-- A sum of 67 terms: the first 32, the next 32, and the last three. -/
theorem sum_67 (f : Fin 67 → EReal) :
    ∑ x, f x = (∑ k : Fin 32, f ⟨k.val, by omega⟩) + (∑ k : Fin 32, f ⟨32 + k.val, by omega⟩) + f 64 + f 65 + f 66 := by
  rw [Fin.sum_univ_castSucc, Fin.sum_univ_castSucc, Fin.sum_univ_castSucc]
  exact congrArg (· + f 64 + f 65 + f 66) (Fin.sum_univ_add (a := 32) (b := 32) fun i => f ⟨i.val, by omega⟩)

/-- A sum of 33 terms: the first 32 and the last. -/
theorem sum_33 (f : Fin 33 → EReal) : ∑ x, f x = (∑ k : Fin 32, f ⟨k.val, by omega⟩) + f 32 :=
  Fin.sum_univ_castSucc f

/-- The pattern of minus infinity is the least extended real. -/
theorem ofBits_neg_inf : Ideal.ofBits .f32 0xFF800000#32 = ⊥ := by
  simp only [Ideal.ofBits, Ideal.ieee]
  rw [if_pos (by decide), if_pos (by decide), if_pos (by decide)]

/-! ### The network -/

/-- The parameters of the two heads and of the encoder. -/
structure Params where
  w1 : Fin 3 → Fin 32 → EReal
  b1 : Fin 32 → EReal
  wg : Fin 32 → Fin 32 → EReal
  bg : Fin 32 → EReal
  wm : Fin 32 → EReal
  bm : Fin 32 → EReal
  wp1 : Fin 67 → Fin 32 → EReal
  bp1 : Fin 32 → EReal
  wp2 : Fin 32 → EReal
  bp2 : EReal
  wc1 : Fin 33 → Fin 32 → EReal
  bc1 : Fin 32 → EReal
  wc2 : Fin 32 → EReal
  bc2 : EReal

/-- One sample of the batch: three numbers for each job, one for each machine, three for each pair of a job and a
    machine (`c` says whether they are compatible), and one for each pair of jobs. -/
structure Sample where
  s : Fin 200 → EReal
  r : Fin 200 → EReal
  t : Fin 200 → EReal
  v : Fin 50 → EReal
  c : Fin 200 → Fin 50 → EReal
  q : Fin 200 → Fin 50 → EReal
  p : Fin 200 → Fin 50 → EReal
  e : Fin 200 → Fin 200 → EReal

variable (P : Params) (S : Sample)

/-- Hidden row of a job before its neighbours are added. -/
def hid0 (j : Fin 200) (d : Fin 32) : EReal :=
  max (S.s j * P.w1 0 d + S.r j * P.w1 1 d + S.t j * P.w1 2 d + P.b1 d) 0

/-- Hidden row of a job. -/
def hid (j : Fin 200) (d : Fin 32) : EReal :=
  max ((∑ k : Fin 32, (hid0 P S j k + ∑ i : Fin 200, S.e j i * hid0 P S i k) * P.wg k d) + P.bg d) 0

/-- Hidden row of a machine. -/
def mach (m : Fin 50) (d : Fin 32) : EReal := max (S.v m * P.wm d + P.bm d) 0

/-- What the job's hidden row contributes to the first layer of the pair's score. -/
def fromJob (j : Fin 200) (d : Fin 32) : EReal := ∑ k : Fin 32, hid P S j k * P.wp1 ⟨k.val, by omega⟩ d

/-- What the machine's hidden row contributes to the first layer of the pair's score. -/
def fromMach (m : Fin 50) (d : Fin 32) : EReal := ∑ k : Fin 32, mach P S m k * P.wp1 ⟨32 + k.val, by omega⟩ d

/-- First layer of the score of a pair, before the rectifier. -/
def layer (j : Fin 200) (m : Fin 50) (d : Fin 32) : EReal :=
  fromJob P S j d + fromMach P S m d + S.c j m * P.wp1 64 d + S.q j m * P.wp1 65 d + S.p j m * P.wp1 66 d + P.bp1 d

/-- The number a masked pair scores. -/
def low : EReal := Ideal.ofBits .f32 0xCCBEBC20#32

/-- Masked score of a pair. -/
def score (j : Fin 200) (m : Fin 50) : EReal :=
  open Classical in
  if S.r j = 0 ∨ S.c j m = 0 then low else (∑ d : Fin 32, max (layer P S j m d) 0 * P.wp2 d) + P.bp2

/-- The scores of a sample in one row, job by job. -/
def scores (k : Fin 10000) : EReal :=
  score P S ⟨k.val / 50, Nat.div_lt_of_lt_mul (by omega)⟩ ⟨k.val % 50, Nat.mod_lt _ (by omega)⟩

/-- The critic's first layer before the rectifier. -/
def critic0 (d : Fin 32) : EReal :=
  (∑ k : Fin 32, Ideal.div (∑ j : Fin 200, hid P S j k) (Ideal.ofBits .f32 0x43480000#32) * P.wc1 ⟨k.val, by omega⟩ d)
    + Ideal.div (∑ m : Fin 50, S.v m) (Ideal.ofBits .f32 0x42480000#32) * P.wc1 32 d + P.bc1 d

/-- The critic's value. -/
def critic : EReal := (∑ d : Fin 32, max (critic0 P S d) 0 * P.wc2 d) + P.bc2

/-! ### The softmax of a row of scores -/

variable {n : ℕ} (f : Fin n → EReal)

/-- The largest score. -/
def top : EReal := Finset.univ.fold max ⊥ f

/-- The sum of the exponentials of the scores relative to the largest. -/
def mass : EReal := ∑ k, Ideal.exp (f k - top f)

/-- Logarithm of the softmax at an index. -/
def logp (k : Fin n) : EReal := f k - top f - Ideal.log (mass f)

/-- Entropy of the softmax. -/
def ent : EReal := -∑ k, Ideal.exp (logp f k) * logp f k

/-! ### The softmax of real scores: two ways to write each value -/

variable [NeZero n]

/-- The largest of real scores is a real number. -/
theorem top_fin (h : ∀ k, IsReal (f k)) : IsReal (top f) := by
  have hs : top f = Finset.univ.sup f := rfl
  obtain ⟨k, -, hk⟩ := Finset.exists_mem_eq_sup (Finset.univ : Finset (Fin n)) ⟨0, Finset.mem_univ _⟩ f
  rw [hs, hk]
  exact h k

theorem exp_coe (r : ℝ) : Ideal.exp (r : EReal) = (Real.exp r : EReal) := rfl

theorem log_coe_pos {r : ℝ} (h : 0 < r) : Ideal.log (r : EReal) = (Real.log r : EReal) := by
  show (if r ≤ 0 then (⊥ : EReal) else (Real.log r : EReal)) = _
  rw [if_neg (not_le.mpr h)]

theorem div_coe_pos (x : ℝ) {r : ℝ} (h : 0 < r) : Ideal.div (x : EReal) (r : EReal) = ((x / r : ℝ) : EReal) := by
  unfold Ideal.div
  rw [if_neg (by exact_mod_cast h.ne'), div_eq_mul_inv, EReal.coe_mul, EReal.coe_inv]

/-- Real scores: the parts of the softmax are real numbers, given by the real formulas. -/
theorem parts_real (h : ∀ k, IsReal (f k)) : ∃ (g : Fin n → ℝ) (a z : ℝ), (∀ k, f k = (g k : EReal)) ∧
    top f = (a : EReal) ∧ mass f = (z : EReal) ∧ z = ∑ k, Real.exp (g k - a) ∧ 0 < z := by
  choose g hg using h
  obtain ⟨a, ha⟩ := top_fin f fun k => ⟨g k, hg k⟩
  refine ⟨g, a, ∑ k, Real.exp (g k - a), hg, ha, ?_, rfl, ?_⟩
  · rw [coe_sum]
    refine Finset.sum_congr rfl fun k _ => ?_
    rw [hg k, ha, ← EReal.coe_sub, exp_coe]
  · exact Finset.sum_pos (fun k _ => Real.exp_pos _) ⟨0, Finset.mem_univ _⟩

/-- Real scores: a score less the logarithm of the whole mass is the logarithm of the softmax. -/
theorem logp_of_parts (h : ∀ k, IsReal (f k)) (k : Fin n) : f k - (top f + Ideal.log (mass f)) = logp f k := by
  obtain ⟨g, a, z, hg, ha, hz, -, hpos⟩ := parts_real f h
  unfold logp
  rw [hg k, ha, hz, log_coe_pos hpos]
  norm_cast
  ring

/-- Real scores: the logarithm of the whole mass less the mean score is the entropy. -/
theorem ent_of_parts (h : ∀ k, IsReal (f k)) :
    top f + Ideal.log (mass f) - Ideal.div (∑ k, Ideal.exp (f k - top f) * f k) (mass f) = ent f := by
  obtain ⟨g, a, z, hg, ha, hz, hsum, hpos⟩ := parts_real f h
  have hl : ∀ k, logp f k = ((g k - a - Real.log z : ℝ) : EReal) := fun k => by
    unfold logp
    rw [hg k, ha, hz, log_coe_pos hpos]
    norm_cast
  have he : ∀ k, Real.exp (g k - a - Real.log z) = Real.exp (g k - a) / z := fun k => by
    rw [Real.exp_sub, Real.exp_log hpos]
  have hnum : (∑ k, Ideal.exp (f k - top f) * f k) = ((∑ k, Real.exp (g k - a) * g k : ℝ) : EReal) := by
    rw [coe_sum]
    refine Finset.sum_congr rfl fun k _ => ?_
    rw [hg k, ha, ← EReal.coe_sub, exp_coe, EReal.coe_mul]
  have hent : ent f = ((-∑ k, Real.exp (g k - a) / z * (g k - a - Real.log z) : ℝ) : EReal) := by
    unfold ent
    rw [EReal.coe_neg, coe_sum]
    congr 1
    refine Finset.sum_congr rfl fun k _ => ?_
    rw [hl k, exp_coe, he k, EReal.coe_mul]
  rw [hent, hnum, hz, ha, log_coe_pos hpos, div_coe_pos _ hpos]
  norm_cast
  have h1 : ∑ k, Real.exp (g k - a) / z * (g k - a - Real.log z)
      = (∑ k, Real.exp (g k - a) * g k) / z - (a + Real.log z) * ((∑ k, Real.exp (g k - a)) / z) := by
    rw [Finset.sum_div, Finset.sum_div, Finset.mul_sum, ← Finset.sum_sub_distrib]
    refine Finset.sum_congr rfl fun k _ => ?_
    ring
  rw [h1, ← hsum, div_self hpos.ne']
  ring

/-! ### Real parameters and a real sample have real scores -/

/-- The parameters that the scores read are real numbers. -/
structure Params.Real : Prop where
  w1 : ∀ i d, IsReal (P.w1 i d)
  b1 : ∀ d, IsReal (P.b1 d)
  wg : ∀ i d, IsReal (P.wg i d)
  bg : ∀ d, IsReal (P.bg d)
  wm : ∀ d, IsReal (P.wm d)
  bm : ∀ d, IsReal (P.bm d)
  wp1 : ∀ i d, IsReal (P.wp1 i d)
  bp1 : ∀ d, IsReal (P.bp1 d)
  wp2 : ∀ d, IsReal (P.wp2 d)
  bp2 : IsReal P.bp2

/-- Every number of the sample is a real number. -/
structure Sample.Real : Prop where
  s : ∀ j, IsReal (S.s j)
  r : ∀ j, IsReal (S.r j)
  t : ∀ j, IsReal (S.t j)
  v : ∀ m, IsReal (S.v m)
  c : ∀ j m, IsReal (S.c j m)
  q : ∀ j m, IsReal (S.q j m)
  p : ∀ j m, IsReal (S.p j m)
  e : ∀ j i, IsReal (S.e j i)

theorem low_fin : IsReal low := by
  unfold low
  simp only [Ideal.ofBits, Ideal.ieee]
  rw [if_neg (by decide), if_neg (by decide)]
  exact ⟨_, rfl⟩

variable {P S}

theorem hid_fin (hP : P.Real) (hS : S.Real) (j : Fin 200) (d : Fin 32) : IsReal (hid P S j d) := by
  have h0 : ∀ j d, IsReal (hid0 P S j d) := fun j d =>
    (((((hS.s j).mul (hP.w1 0 d)).add ((hS.r j).mul (hP.w1 1 d))).add ((hS.t j).mul (hP.w1 2 d))).add (hP.b1 d)).sup .zero
  exact ((IsReal.sum _ fun k => ((h0 j k).add (IsReal.sum _ fun i => (hS.e j i).mul (h0 i k))).mul (hP.wg k d)).add (hP.bg d)).sup
    .zero

theorem mach_fin (hP : P.Real) (hS : S.Real) (m : Fin 50) (d : Fin 32) : IsReal (mach P S m d) :=
  (((hS.v m).mul (hP.wm d)).add (hP.bm d)).sup .zero

/-- The scores of a real sample under real parameters are real numbers. -/
theorem scores_fin (hP : P.Real) (hS : S.Real) (k : Fin 10000) : IsReal (scores P S k) := by
  have hl : ∀ j m d, IsReal (layer P S j m d) := fun j m d =>
    ((((((IsReal.sum _ fun k => (hid_fin hP hS j k).mul (hP.wp1 _ d))).add
      (IsReal.sum _ fun k => (mach_fin hP hS m k).mul (hP.wp1 _ d))).add ((hS.c j m).mul (hP.wp1 64 d))).add
      ((hS.q j m).mul (hP.wp1 65 d))).add ((hS.p j m).mul (hP.wp1 66 d))).add (hP.bp1 d)
  unfold scores score
  split
  · exact low_fin
  · exact (IsReal.sum _ fun d => ((hl _ _ d).sup .zero).mul (hP.wp2 d)).add hP.bp2

end Cert.Net

end
-- ==== Proof.Body.lean ====
/- What the kernel's body computes for one sample: the payloads of the printed body, composed as the body composes them
   for the first of its eight samples, are the values Spec.lean defines. -/
module

public import proofs.«01_k».proof.Proof.Spec
public import proofs.«01_k».proof.Proof.Gen.KernelIdeal.Skeleton
public import Idealize.ShloMosaic.Lib.Pointwise

@[expose] public section

noncomputable section

namespace Cert.Net

open Cert.KernelIdeal Cert.KernelIdeal.Gen Idealize.ShloMosaic

/-! ### What the body loads -/

/-- What the body loads for one sample: three rows of job numbers, the machines' numbers, three tables of pairs, the
    table of job pairs and the chosen action. -/
structure Loads where
  s : Vec Ideal S1x1x200x1 .f32
  r : Vec Ideal S1x1x200x1 .f32
  t : Vec Ideal S1x1x200x1 .f32
  e : Vec Ideal S1x200x200 .bf16
  v : Vec Ideal S1x1x50 .f32
  c : Vec Ideal S1x1x200x50 .bf16
  q : Vec Ideal S1x1x200x50 .bf16
  p : Vec Ideal S1x1x200x50 .bf16
  a : Vec Ideal S1x1x1 .i32

/-- The parameters the body loads, the same for every sample. -/
structure Weights where
  w0 : Vec Ideal S1x32 .f32
  w1 : Vec Ideal S1x32 .f32
  w2 : Vec Ideal S1x32 .f32
  b1 : Vec Ideal S1x32 .f32
  wg : Vec Ideal S32x32 .f32
  bg : Vec Ideal S1x32 .f32
  wm : Vec Ideal S32x1 .f32
  bm : Vec Ideal S32x1 .f32
  w2t : Vec Ideal S32x32 .f32
  rep : Vec Ideal S50x1600 .bf16
  bB : Vec Ideal S1x1600 .f32
  eh : Vec Ideal S182x1600 .bf16
  kp : Vec Ideal S1600x50 .bf16
  bp2 : Vec Ideal S1x1 .f32
  wc1h : Vec Ideal S32x32 .f32
  wc1v : Vec Ideal S1x32 .f32
  bc1 : Vec Ideal S1x32 .f32
  wc2 : Vec Ideal S32x1 .f32
  bc2 : Vec Ideal S1x1 .f32

/-- The machine a column of the wide layout belongs to: thirty-two columns to a machine. -/
def colMach (x : Fin 1600) : Fin 50 := ⟨x.val / 32, by omega⟩

/-- The feature a column of the wide layout holds. -/
def colFeat (x : Fin 1600) : Fin 32 := ⟨x.val % 32, by omega⟩

/-- The loads hold the sample `S`. -/
structure Loads.Reads (l : Loads) (S : Sample) : Prop where
  s : ∀ j, l.s (ix4 0 0 j 0) = S.s j
  r : ∀ j, l.r (ix4 0 0 j 0) = S.r j
  t : ∀ j, l.t (ix4 0 0 j 0) = S.t j
  v : ∀ m, l.v (ix3 0 0 m) = S.v m
  c : ∀ j m, l.c (ix4 0 0 j m) = S.c j m
  q : ∀ j m, l.q (ix4 0 0 j m) = S.q j m
  p : ∀ j m, l.p (ix4 0 0 j m) = S.p j m
  e : ∀ j i, l.e (ix3 0 j i) = S.e j i

/-- The loads hold the parameters `P`: the small ones as they are, the wide ones laid out thirty-two columns to a
    machine with zeros between different machines. -/
structure Weights.Reads (w : Weights) (P : Params) : Prop where
  w0 : ∀ d, w.w0 (ix2 0 d) = P.w1 0 d
  w1 : ∀ d, w.w1 (ix2 0 d) = P.w1 1 d
  w2 : ∀ d, w.w2 (ix2 0 d) = P.w1 2 d
  b1 : ∀ d, w.b1 (ix2 0 d) = P.b1 d
  wg : ∀ k d, w.wg (ix2 k d) = P.wg k d
  bg : ∀ d, w.bg (ix2 0 d) = P.bg d
  wm : ∀ d, w.wm (ix2 d 0) = P.wm d
  bm : ∀ d, w.bm (ix2 d 0) = P.bm d
  w2t : ∀ d k : Fin 32, w.w2t (ix2 d k) = P.wp1 ⟨32 + k.val, by omega⟩ d
  rep : ∀ m x, w.rep (ix2 m x) = if m = colMach x then 1 else 0
  bB : ∀ x, w.bB (ix2 0 x) = P.bp1 (colFeat x)
  ehH : ∀ (k : Fin 32) x, w.eh (ix2 ⟨k.val, by omega⟩ x) = P.wp1 ⟨k.val, by omega⟩ (colFeat x)
  ehC : ∀ (m : Fin 50) x, w.eh (ix2 ⟨32 + m.val, by omega⟩ x) = if m = colMach x then P.wp1 64 (colFeat x) else 0
  ehQ : ∀ (m : Fin 50) x, w.eh (ix2 ⟨82 + m.val, by omega⟩ x) = if m = colMach x then P.wp1 65 (colFeat x) else 0
  ehP : ∀ (m : Fin 50) x, w.eh (ix2 ⟨132 + m.val, by omega⟩ x) = if m = colMach x then P.wp1 66 (colFeat x) else 0
  kp : ∀ x m, w.kp (ix2 x m) = if m = colMach x then P.wp2 (colFeat x) else 0
  bp2 : w.bp2 (ix2 0 0) = P.bp2
  wc1h : ∀ k d : Fin 32, w.wc1h (ix2 k d) = P.wc1 ⟨k.val, by omega⟩ d
  wc1v : ∀ d, w.wc1v (ix2 0 d) = P.wc1 32 d
  bc1 : ∀ d, w.bc1 (ix2 0 d) = P.bc1 d
  wc2 : ∀ d, w.wc2 (ix2 d 0) = P.wc2 d
  bc2 : w.bc2 (ix2 0 0) = P.bc2

/-! ### The stages of the body, as it composes them for one sample -/

variable (l : Loads) (w : Weights)

/-- The hidden rows of the jobs. -/
def bodyHid : FVec Ideal S200x32 .f32 := k0_pay4 (k0_pay3 l.s l.r l.t w.w0 w.w1 w.w2 w.b1 l.e) w.wg w.bg

/-- What the machines contribute to the wide first layer. -/
def bodyMach : FVec Ideal S1x1600 .f32 := k0_pay6 l.v w.wm w.bm w.w2t w.rep

/-- The masked scores of the pairs. -/
def bodyScore : FVec Ideal S200x50 .f32 :=
  k0_pay7 (k0_pay2 l.r) (bodyHid l w) (bodyMach l w) w.bB l.c l.q l.p w.eh w.kp w.bp2

/-- The largest masked score. -/
def bodyTop : Ideal .f32 :=
  k0_pay8 (k0_pay2 l.r) (bodyHid l w) (bodyMach l w) w.bB l.c l.q l.p w.eh w.kp w.bp2

/-- The logarithm of the chosen action's probability, as the body stores it. -/
def bodyLogp : FVec Ideal S1x1x1 .f32 := k0_pay13 (bodyScore l w) (bodyTop l w) l.a

/-- The entropy, as the body stores it. -/
def bodyEnt : FVec Ideal S1x1x1 .f32 := k0_pay14 (bodyScore l w) (bodyTop l w)

/-- The critic's value, as the body stores it. -/
def bodyCritic : FVec Ideal S1x1x1 .f32 :=
  k0_pay16 (k0_pay5 l.v) (k0_pay15 (bodyHid l w)) w.wc1h w.wc1v w.bc1 w.wc2 w.bc2

/-! ### Sums that pick one term -/

/-- A choice by an equality of words. -/
theorem select_eq {α : Type} {n : ℕ} (a b : BitVec n) (x y : α) :
    Scalar.select (IntOp.cmpi .eq a b) x y = if a = b then x else y := by
  by_cases h : a = b
  · rw [if_pos h]
    simp [h, Scalar.select, IntOp.cmpi]
  · rw [if_neg h]
    have hb : (a == b) = false := by simp [h]
    simp [hb, Scalar.select, IntOp.cmpi]

/-- Of terms weighted by a weight that is zero but at one index, that index's term is left. -/
theorem sum_mul_pick {n : ℕ} (k : Fin n) (f : Fin n → EReal) (y : EReal) :
    (∑ m, f m * if m = k then y else 0) = f k * y := by
  rw [Finset.sum_eq_single k]
  · rw [if_pos rfl]
  · intro m _ hm
    rw [if_neg hm, mul_zero]
  · intro h
    exact absurd (Finset.mem_univ k) h

/-- A sum of 182 terms: the first 32 and then three times 50. -/
theorem sum_182 (f : Fin 182 → EReal) : ∑ x, f x = (∑ k : Fin 32, f ⟨k.val, by omega⟩)
    + ((∑ m : Fin 50, f ⟨32 + m.val, by omega⟩) + ((∑ m : Fin 50, f ⟨82 + m.val, by omega⟩)
      + ∑ m : Fin 50, f ⟨132 + m.val, by omega⟩)) := by
  rw [Fin.sum_univ_two_halves 32 150 (by norm_num) f,
    Fin.sum_univ_two_halves 50 100 (by norm_num) fun k : Fin 150 => f ⟨32 + k.val, by omega⟩,
    Fin.sum_univ_two_halves 50 50 (by norm_num) fun k : Fin 100 => f ⟨32 + (50 + k.val), by omega⟩]
  simp only [← add_assoc]

/-- A row of 182 entries joined from four pieces, times a column, is the sum of the four pieces' products. -/
theorem sum_joined (h : Fin 32 → EReal) (c q p : Fin 50 → EReal) (g : Fin 182 → EReal) :
    (∑ x : Fin 182, (if h1 : x.val < 32 then h ⟨x.val, h1⟩ else if h2 : x.val - 32 < 50 then c ⟨x.val - 32, h2⟩
        else if h3 : x.val - 32 - 50 < 50 then q ⟨x.val - 32 - 50, h3⟩ else p ⟨x.val - 32 - 50 - 50, by omega⟩) * g x)
      = (∑ k : Fin 32, h k * g ⟨k.val, by omega⟩) + ((∑ m : Fin 50, c m * g ⟨32 + m.val, by omega⟩)
        + ((∑ m : Fin 50, q m * g ⟨82 + m.val, by omega⟩) + ∑ m : Fin 50, p m * g ⟨132 + m.val, by omega⟩)) := by
  rw [sum_182]
  congr 1

/-- The low five bits of a column's word say which feature the column holds. -/
theorem colFeat_word (x : Fin 1600) (d : Fin 32) :
    IntOp.andi (BitVec.ofNat 32 x.val) 31#32 = BitVec.ofNat 32 d.val ↔ d = colFeat x := by
  have h : IntOp.andi (BitVec.ofNat 32 x.val) 31#32 = BitVec.ofNat 32 (x.val % 32) := by
    apply BitVec.eq_of_toNat_eq
    show ((BitVec.ofNat 32 x.val) &&& 31#32).toNat = _
    rw [BitVec.toNat_and, BitVec.toNat_ofNat, BitVec.toNat_ofNat, BitVec.toNat_ofNat, Nat.mod_eq_of_lt (by omega),
      Nat.mod_eq_of_lt (by omega), Nat.mod_eq_of_lt (by omega)]
    exact Nat.and_two_pow_sub_one_eq_mod _ 5
  rw [h]
  constructor
  · intro e
    have := congrArg BitVec.toNat e
    rw [BitVec.toNat_ofNat, BitVec.toNat_ofNat, Nat.mod_eq_of_lt (show x.val % 32 < 2 ^ 32 by omega),
      Nat.mod_eq_of_lt (show d.val < 2 ^ 32 by omega)] at this
    exact Fin.ext this.symm
  · rintro rfl
    rfl

/-- A sum over the columns of terms weighted by a weight that is zero but at one machine's columns: the sum over that
    machine's thirty-two features. -/
theorem sum_cols (m : Fin 50) (f : Fin 1600 → EReal) (y : Fin 32 → EReal) :
    (∑ x, f x * if m = colMach x then y (colFeat x) else 0) = ∑ d : Fin 32, f ⟨m.val * 32 + d.val, by omega⟩ * y d := by
  rw [Fin.sum_univ_tiles 50 32 (by norm_num), Finset.sum_eq_single m]
  · refine Finset.sum_congr rfl fun d _ => ?_
    rw [if_pos (Fin.ext (by show m.val = (m.val * 32 + d.val) / 32; omega)),
      show colFeat ⟨m.val * 32 + d.val, by omega⟩ = d from Fin.ext (by show (m.val * 32 + d.val) % 32 = d.val; omega)]
  · intro m' _ hm
    refine Finset.sum_eq_zero fun d _ => ?_
    rw [if_neg, mul_zero]
    intro e
    apply hm
    have := congrArg Fin.val e
    have h' : m.val = (m'.val * 32 + d.val) / 32 := this
    exact Fin.ext (by omega)
  · intro h
    exact absurd (Finset.mem_univ m) h

/-! ### The values of the stages -/

variable {l w} {S : Sample} {P : Params}

/-- The body's hidden rows are the network's. -/
theorem bodyHid_eq (hl : l.Reads S) (hw : w.Reads P) (j : Fin 200) (d : Fin 32) :
    bodyHid l w (ix2 j d) = hid P S j d := by
  pointwise [bodyHid, k0_pay4, k0_pay3, k0_pay2]
  simp only [hl.s, hl.r, hl.t, hl.e, hw.w0, hw.w1, hw.w2, hw.b1, hw.wg, hw.bg]
  rfl

/-- The body's machine row at a column is what that column's machine contributes to that column's feature. -/
theorem bodyMach_eq (hl : l.Reads S) (hw : w.Reads P) (x : Fin 1600) :
    bodyMach l w (ix2 0 x) = fromMach P S (colMach x) (colFeat x) := by
  pointwise [bodyMach, k0_pay6, k0_pay5]
  simp only [select_eq, colFeat_word, hl.v, hw.wm, hw.bm, hw.w2t, hw.rep, sum_mul_pick, mul_one]
  rw [Finset.sum_ite_eq' Finset.univ (colFeat x), if_pos (Finset.mem_univ _)]
  refine Finset.sum_congr rfl fun k _ => ?_
  unfold mach
  rw [mul_comm, mul_comm (P.wm k)]

/-- The body's masked scores are the network's. -/
theorem bodyScore_eq (hl : l.Reads S) (hw : w.Reads P) (j : Fin 200) (m : Fin 50) :
    bodyScore l w (ix2 j m) = score P S j m := by
  have hr : k0_pay2 l.r (ix2 j 0) = S.r j := by
    pointwise [k0_pay2]
    exact hl.r j
  have hx := fun x => sum_joined (fun k => hid P S j k) (S.c j) (S.q j) (S.p j) fun k => w.eh (ix2 k x)
  simp only [hw.ehH, hw.ehC, hw.ehQ, hw.ehP, sum_mul_pick] at hx
  pointwise [bodyScore, k0_pay7]
  simp only [hr, hl.c, hl.q, hl.p, bodyHid_eq hl hw, bodyMach_eq hl hw, hw.bB, hw.bp2, hw.kp, hx, sum_cols m _ P.wp2]
  have hm : ∀ d : Fin 32, colMach ⟨m.val * 32 + d.val, by omega⟩ = m := fun d =>
    Fin.ext (by show (m.val * 32 + d.val) / 32 = m.val; omega)
  have hf : ∀ d : Fin 32, colFeat ⟨m.val * 32 + d.val, by omega⟩ = d := fun d =>
    Fin.ext (by show (m.val * 32 + d.val) % 32 = d.val; omega)
  simp only [hm, hf]
  unfold score
  by_cases h0 : S.r j * S.c j m = 0
  · rw [if_pos h0, if_pos (mul_eq_zero.mp h0)]
    rfl
  · rw [if_neg h0, if_neg fun h => h0 (mul_eq_zero.mpr h)]
    congr 1
    refine Finset.sum_congr rfl fun d _ => ?_
    congr 2
    unfold layer fromJob
    ac_rfl

/-- A sum over the pairs, job by job, is the sum over the row of the pairs. -/
theorem sum_pairs (f : Fin 200 → Fin 50 → EReal) :
    (∑ j, ∑ m, f j m) = ∑ k : Fin 10000, f ⟨k.val / 50, by omega⟩ ⟨k.val % 50, by omega⟩ := by
  rw [Fin.sum_univ_tiles 200 50 (by norm_num) fun k : Fin 10000 => f ⟨k.val / 50, by omega⟩ ⟨k.val % 50, by omega⟩]
  refine Finset.sum_congr rfl fun j _ => Finset.sum_congr rfl fun m _ => ?_
  have h1 : (⟨(j.val * 50 + m.val) / 50, by omega⟩ : Fin 200) = j :=
    Fin.ext (by show (j.val * 50 + m.val) / 50 = j.val; omega)
  have h2 : (⟨(j.val * 50 + m.val) % 50, by omega⟩ : Fin 50) = m :=
    Fin.ext (by show (j.val * 50 + m.val) % 50 = m.val; omega)
  show f j m = f ⟨(j.val * 50 + m.val) / 50, by omega⟩ ⟨(j.val * 50 + m.val) % 50, by omega⟩
  rw [h1, h2]

/-- A sum over the pairs of a function of the score is the sum over the row of scores. -/
theorem sum_scores (g : EReal → EReal) : (∑ j, ∑ m, g (score P S j m)) = ∑ k, g (scores P S k) :=
  sum_pairs fun j m => g (score P S j m)

/-- The body's largest score is the largest of the row of scores. -/
theorem bodyTop_eq (hl : l.Reads S) (hw : w.Reads P) : bodyTop l w = top (scores P S) := by
  have hs : ∀ x : Fin 200 × Fin 50, k0_pay7 (k0_pay2 l.r) (bodyHid l w) (bodyMach l w) w.bB l.c l.q l.p w.eh w.kp w.bp2
      (ix2 x.1 x.2) = score P S x.1 x.2 := fun x => bodyScore_eq hl hw x.1 x.2
  pointwise [bodyTop, k0_pay8]
  simp only [hs, ofBits_neg_inf]
  show Finset.univ.sup (fun x : Fin 200 × Fin 50 => score P S x.1 x.2) = Finset.univ.sup (scores P S)
  refine le_antisymm (Finset.sup_le fun x _ => ?_) (Finset.sup_le fun k _ => ?_)
  · have hk : score P S x.1 x.2 = scores P S ⟨x.1.val * 50 + x.2.val, by omega⟩ := by
      unfold scores
      congr 1
      · exact Fin.ext (by show x.1.val = (x.1.val * 50 + x.2.val) / 50; omega)
      · exact Fin.ext (by show x.2.val = (x.1.val * 50 + x.2.val) % 50; omega)
    rw [hk]
    exact Finset.le_sup (f := scores P S) (Finset.mem_univ _)
  · exact Finset.le_sup (f := fun x : Fin 200 × Fin 50 => score P S x.1 x.2) (Finset.mem_univ (_, _))

/-- The word of a pair's place in the row, as the body computes it. -/
theorem pair_word (j : Fin 200) (m : Fin 50) :
    IntOp.addi (IntOp.muli (BitVec.ofNat 32 j.val) 50#32) (BitVec.ofNat 32 m.val) = BitVec.ofNat 32 (j.val * 50 + m.val) := by
  show BitVec.ofNat 32 j.val * BitVec.ofNat 32 50 + BitVec.ofNat 32 m.val = _
  rw [← BitVec.ofNat_mul, ← BitVec.ofNat_add]

/-- The body's stored log-probability is that of the chosen action, when the scores are real numbers. -/
theorem bodyLogp_eq (hl : l.Reads S) (hw : w.Reads P) (hP : P.Real) (hS : S.Real) (a : Fin 10000)
    (ha : l.a (ix3 0 0 0) = BitVec.ofNat 32 a.val) : bodyLogp l w (ix3 0 0 0) = logp (scores P S) a := by
  pointwise [bodyLogp, k0_pay13, k0_pay12, k0_pay11, k0_pay10, k0_pay9]
  simp only [select_eq, pair_word, ha, bodyScore_eq hl hw, bodyTop_eq hl hw]
  rw [sum_scores fun x => Ideal.exp (x - top (scores P S)), sum_pairs]
  have hk : ∀ k : Fin 10000, k.val / 50 * 50 + k.val % 50 = k.val := fun k => by omega
  have he : ∀ k : Fin 10000, BitVec.ofNat 32 k.val = BitVec.ofNat 32 a.val ↔ k = a := fun k => by
    constructor
    · intro e
      have := congrArg BitVec.toNat e
      rw [BitVec.toNat_ofNat, BitVec.toNat_ofNat, Nat.mod_eq_of_lt (by omega), Nat.mod_eq_of_lt (by omega)] at this
      exact Fin.ext this
    · rintro rfl
      rfl
  simp only [hk, he]
  rw [Finset.sum_ite_eq' Finset.univ a, if_pos (Finset.mem_univ _)]
  exact logp_of_parts _ (scores_fin hP hS) a

/-- The body's stored entropy is that of the softmax of the scores, when they are real numbers. -/
theorem bodyEnt_eq (hl : l.Reads S) (hw : w.Reads P) (hP : P.Real) (hS : S.Real) :
    bodyEnt l w (ix3 0 0 0) = ent (scores P S) := by
  pointwise [bodyEnt, k0_pay14, k0_pay12, k0_pay11, k0_pay10, k0_pay9]
  simp only [bodyScore_eq hl hw, bodyTop_eq hl hw]
  rw [sum_scores fun x => Ideal.exp (x - top (scores P S)), sum_scores fun x => Ideal.exp (x - top (scores P S)) * x]
  exact ent_of_parts _ (scores_fin hP hS)

/-- The body's stored critic value is the network's. -/
theorem bodyCritic_eq (hl : l.Reads S) (hw : w.Reads P) : bodyCritic l w (ix3 0 0 0) = critic P S := by
  pointwise [bodyCritic, k0_pay16, k0_pay5, k0_pay15]
  simp only [bodyHid_eq hl hw, Finset.univ_unique, Finset.sum_singleton, Fin.default_eq_zero, hl.v, hw.wc1h, hw.wc1v, hw.bc1,
    hw.wc2, hw.bc2]
  rfl

end Cert.Net

end
-- ==== Proof.Pieces.lean ====
/- What the body's three output buffers hold: at each of the block's eight samples, what the body computes from that
   sample's loads. -/
module

public import proofs.«01_k».proof.Proof.KernelIdealFrame
public import proofs.«01_k».proof.Proof.Body
public import Idealize.ShloMosaic.Lib.Pipeline.ValueKit

@[expose] public section

set_option maxRecDepth 16384

noncomputable section

namespace Cert.Net

open Cert.KernelIdeal Cert.KernelIdeal.Gen Idealize.ShloMosaic Idealize.ShloMosaic.TcCoe Idealize.SL.Sem

/-- The contents of the input windows' buffers. -/
structure Blocks where
  x0 : Vec Ideal S8x3x200x1 .f32
  x1 : Vec Ideal S8x1x50 .f32
  x2 : Vec Ideal S8x3x200x50 .bf16
  x3 : Vec Ideal S8x200x200 .bf16
  x4 : Vec Ideal S8x1x1 .i32
  x5 : Vec Ideal S3x32 .f32
  x6 : Vec Ideal S1x32 .f32
  x7 : Vec Ideal S32x32 .f32
  x8 : Vec Ideal S1x32 .f32
  x9 : Vec Ideal S32x1 .f32
  x10 : Vec Ideal S32x1 .f32
  x11 : Vec Ideal S32x32 .f32
  x12 : Vec Ideal S50x1600 .bf16
  x13 : Vec Ideal S1x1600 .f32
  x14 : Vec Ideal S182x1600 .bf16
  x15 : Vec Ideal S1600x50 .bf16
  x16 : Vec Ideal S1x1 .f32
  x17 : Vec Ideal S32x32 .f32
  x18 : Vec Ideal S1x32 .f32
  x19 : Vec Ideal S1x32 .f32
  x20 : Vec Ideal S32x1 .f32
  x21 : Vec Ideal S1x1 .f32

/-- The parts of given contents. -/
theorem Blocks.parts (x0 : Vec Ideal S8x3x200x1 .f32)
    (x1 : Vec Ideal S8x1x50 .f32)
    (x2 : Vec Ideal S8x3x200x50 .bf16)
    (x3 : Vec Ideal S8x200x200 .bf16)
    (x4 : Vec Ideal S8x1x1 .i32)
    (x5 : Vec Ideal S3x32 .f32)
    (x6 : Vec Ideal S1x32 .f32)
    (x7 : Vec Ideal S32x32 .f32)
    (x8 : Vec Ideal S1x32 .f32)
    (x9 : Vec Ideal S32x1 .f32)
    (x10 : Vec Ideal S32x1 .f32)
    (x11 : Vec Ideal S32x32 .f32)
    (x12 : Vec Ideal S50x1600 .bf16)
    (x13 : Vec Ideal S1x1600 .f32)
    (x14 : Vec Ideal S182x1600 .bf16)
    (x15 : Vec Ideal S1600x50 .bf16)
    (x16 : Vec Ideal S1x1 .f32)
    (x17 : Vec Ideal S32x32 .f32)
    (x18 : Vec Ideal S1x32 .f32)
    (x19 : Vec Ideal S1x32 .f32)
    (x20 : Vec Ideal S32x1 .f32)
    (x21 : Vec Ideal S1x1 .f32) :
    let X : Blocks := ⟨x0, x1, x2, x3, x4, x5, x6, x7, x8, x9, x10, x11, x12, x13, x14, x15, x16, x17, x18, x19, x20, x21⟩
    X.x0 = x0 ∧ X.x1 = x1 ∧ X.x2 = x2 ∧ X.x3 = x3 ∧ X.x4 = x4 ∧ X.x5 = x5 ∧ X.x6 = x6 ∧ X.x7 = x7 ∧ X.x8 = x8 ∧ X.x9 = x9 ∧ X.x10 = x10 ∧ X.x11 = x11 ∧ X.x12 = x12 ∧ X.x13 = x13 ∧ X.x14 = x14 ∧ X.x15 = x15 ∧ X.x16 = x16 ∧ X.x17 = x17 ∧ X.x18 = x18 ∧ X.x19 = x19 ∧ X.x20 = x20 ∧ X.x21 = x21 :=
  ⟨rfl, rfl, rfl, rfl, rfl, rfl, rfl, rfl, rfl, rfl, rfl, rfl, rfl, rfl, rfl, rfl, rfl, rfl, rfl, rfl, rfl, rfl⟩

variable (X : Blocks)

/-- The parameters the body loads. -/
def weightsOf : Weights where
  w0 := View.ld X.x5 r0_3
  w1 := View.ld X.x5 r0_4
  w2 := View.ld X.x5 r0_5
  b1 := View.ld X.x6 r0_6
  wg := View.ld X.x7 r0_8
  bg := View.ld X.x8 r0_6
  wm := View.ld X.x9 r0_10
  bm := View.ld X.x10 r0_10
  w2t := View.ld X.x11 r0_8
  rep := View.ld X.x12 r0_11
  bB := View.ld X.x13 r0_12
  eh := View.ld X.x14 r0_16
  kp := View.ld X.x15 r0_17
  bp2 := View.ld X.x16 r0_18
  wc1h := View.ld X.x17 r0_8
  wc1v := View.ld X.x18 r0_6
  bc1 := View.ld X.x19 r0_6
  wc2 := View.ld X.x20 r0_10
  bc2 := View.ld X.x21 r0_18

/-- What the body loads for sample `k` of the block's eight. -/
def loadsOf (k : Fin 8) : Loads where
  s := View.ld X.x0 (Rect.unit (s := S8x3x200x1) ![k.val, 0, 0, 0] S1x1x200x1.size (by intro a; fin_cases a <;> simp <;> omega))
  r := View.ld X.x0 (Rect.unit (s := S8x3x200x1) ![k.val, 1, 0, 0] S1x1x200x1.size (by intro a; fin_cases a <;> simp <;> omega))
  t := View.ld X.x0 (Rect.unit (s := S8x3x200x1) ![k.val, 2, 0, 0] S1x1x200x1.size (by intro a; fin_cases a <;> simp <;> omega))
  e := View.ld X.x3 (Rect.unit (s := S8x200x200) ![k.val, 0, 0] S1x200x200.size (by intro a; fin_cases a <;> simp <;> omega))
  v := View.ld X.x1 (Rect.unit (s := S8x1x50) ![k.val, 0, 0] S1x1x50.size (by intro a; fin_cases a <;> simp <;> omega))
  c := View.ld X.x2 (Rect.unit (s := S8x3x200x50) ![k.val, 0, 0, 0] S1x1x200x50.size (by intro a; fin_cases a <;> simp <;> omega))
  q := View.ld X.x2 (Rect.unit (s := S8x3x200x50) ![k.val, 1, 0, 0] S1x1x200x50.size (by intro a; fin_cases a <;> simp <;> omega))
  p := View.ld X.x2 (Rect.unit (s := S8x3x200x50) ![k.val, 2, 0, 0] S1x1x200x50.size (by intro a; fin_cases a <;> simp <;> omega))
  a := View.ld X.x4 (Rect.unit (s := S8x1x1) ![k.val, 0, 0] S1x1x1.size (by intro a; fin_cases a <;> simp <;> omega))

/-- The log-probabilities' buffer after the body. -/
abbrev outLogp : Vec Ideal S8x1x1 .f32 :=
  out0_22 X.x0 X.x1 X.x2 X.x3 X.x4 X.x5 X.x6 X.x7 X.x8 X.x9 X.x10 X.x11
    X.x12 X.x13 X.x14 X.x15 X.x16 X.x17 X.x18 X.x19 X.x20 X.x21

/-- The entropies' buffer after the body. -/
abbrev outEnt : Vec Ideal S8x1x1 .f32 :=
  out0_23 X.x0 X.x1 X.x2 X.x3 X.x4 X.x5 X.x6 X.x7 X.x8 X.x9 X.x10 X.x11
    X.x12 X.x13 X.x14 X.x15 X.x16 X.x17 X.x18 X.x19 X.x20 X.x21

/-- The critic values' buffer after the body. -/
abbrev outCritic : Vec Ideal S8x1x1 .f32 :=
  out0_24 X.x0 X.x1 X.x2 X.x3 X.x4 X.x5 X.x6 X.x7 X.x8 X.x9 X.x10 X.x11
    X.x12 X.x13 X.x14 X.x15 X.x16 X.x17 X.x18 X.x19 X.x20 X.x21

/-- Eight one-entry pieces, one to a sample, as the body stores them (the last stored first). -/
abbrev eight (w : Fin 8 → Vec Ideal S1x1x1 .f32) : List (View.Piece (Elt Ideal) S8x1x1 .f32) :=
  [⟨r0_82, w 7⟩, ⟨r0_73, w 6⟩, ⟨r0_64, w 5⟩, ⟨r0_55, w 4⟩, ⟨r0_46, w 3⟩, ⟨r0_37, w 2⟩, ⟨r0_28, w 1⟩, ⟨r0_19, w 0⟩]

/-- The buffer that eight one-entry pieces make holds, at a sample, that sample's piece. -/
theorem canon_eight (w : Fin 8 → Vec Ideal S1x1x1 .f32) (k : Fin 8) :
    View.canon (eight w) (ix3 k 0 0) = w k (ix3 0 0 0) := by
  have hp : ∀ (k' : Fin 8) (x : S1x1x1.Idx), k.val = k'.val + (x 0).val → w k' x = w k (ix3 0 0 0) := fun k' x h => by
    have h0 : (x 0).val = 0 := Nat.lt_one_iff.mp (x 0).isLt
    have hk : k' = k := Fin.ext (by omega)
    have hx : x = ix3 0 0 0 := funext fun a => Fin.ext (by
      match a with
      | ⟨0, _⟩ => exact h0
      | ⟨1, _⟩ => exact Nat.lt_one_iff.mp (x 1).isLt
      | ⟨2, _⟩ => exact Nat.lt_one_iff.mp (x 2).isLt)
    rw [hk, hx]
  canon_tiles x h
  all_goals exact hp _ x (by first | exact h0 | exact h0.trans (Nat.zero_add _).symm)

/-- The log-probabilities' buffer is eight pieces, each computed from its own sample's loads. -/
theorem outLogp_eq : outLogp X = View.canon (eight fun k => bodyLogp (loadsOf X k) (weightsOf X)) := rfl

/-- The entropies' buffer is eight pieces, each computed from its own sample's loads. -/
theorem outEnt_eq : outEnt X = View.canon (eight fun k => bodyEnt (loadsOf X k) (weightsOf X)) := rfl

/-- The critic values' buffer is eight pieces, each computed from its own sample's loads. -/
theorem outCritic_eq : outCritic X = View.canon (eight fun k => bodyCritic (loadsOf X k) (weightsOf X)) := rfl

/-! ### The loads, read at an entry -/

/-- A load of a row of a table, read at an entry. -/
theorem ld_row {A D : ℕ} (x : Vec Ideal ⟨2, ![A, D]⟩ .f32) (a : Fin A) (h) (d : Fin D) :
    View.ld x (Rect.unit (s := ⟨2, ![A, D]⟩) ![a.val, 0] ![1, D] h) (ix2 0 d) = x (ix2 a d) :=
  View.ld_unit_apply_of x _ _ h _ (ix2 a d) fun i => by fin_cases i <;> simp

/-- A load of one layer of one sample out of a block of four axes, read at an entry. -/
theorem ld_layer {e : EltTy} {K A J M : ℕ} (x : Vec Ideal ⟨4, ![K, A, J, M]⟩ e) (k : Fin K) (a : Fin A) (h) (j : Fin J)
    (i : Fin M) : View.ld x (Rect.unit (s := ⟨4, ![K, A, J, M]⟩) ![k.val, a.val, 0, 0] ![1, 1, J, M] h) (ix4 0 0 j i)
      = x (ix4 k a j i) :=
  View.ld_unit_apply_of x _ _ h _ (ix4 k a j i) fun i => by fin_cases i <;> simp

/-- A load of one sample out of a block of three axes, read at an entry. -/
theorem ld_sample {e : EltTy} {K J M : ℕ} (x : Vec Ideal ⟨3, ![K, J, M]⟩ e) (k : Fin K) (h) (j : Fin J) (i : Fin M) :
    View.ld x (Rect.unit (s := ⟨3, ![K, J, M]⟩) ![k.val, 0, 0] ![1, J, M] h) (ix3 0 j i) = x (ix3 k j i) :=
  View.ld_unit_apply_of x _ _ h _ (ix3 k j i) fun i => by fin_cases i <;> simp

/-- The loads for sample `k` of the block, from the block's entries. -/
theorem loadsOf_reads (k : Fin 8) (S : Sample) (h0 : ∀ j, X.x0 (ix4 k 0 j 0) = S.s j)
    (h1 : ∀ j, X.x0 (ix4 k 1 j 0) = S.r j) (h2 : ∀ j, X.x0 (ix4 k 2 j 0) = S.t j) (hv : ∀ i, X.x1 (ix3 k 0 i) = S.v i)
    (hc : ∀ j i, X.x2 (ix4 k 0 j i) = S.c j i) (hq : ∀ j i, X.x2 (ix4 k 1 j i) = S.q j i)
    (hp : ∀ j i, X.x2 (ix4 k 2 j i) = S.p j i) (he : ∀ j i, X.x3 (ix3 k j i) = S.e j i) : (loadsOf X k).Reads S where
  s j := (ld_layer X.x0 k 0 _ j 0).trans (h0 j)
  r j := (ld_layer X.x0 k 1 _ j 0).trans (h1 j)
  t j := (ld_layer X.x0 k 2 _ j 0).trans (h2 j)
  v i := (ld_sample X.x1 k _ 0 i).trans (hv i)
  c j i := (ld_layer X.x2 k 0 _ j i).trans (hc j i)
  q j i := (ld_layer X.x2 k 1 _ j i).trans (hq j i)
  p j i := (ld_layer X.x2 k 2 _ j i).trans (hp j i)
  e j i := (ld_sample X.x3 k _ j i).trans (he j i)

/-- The action word that is loaded for sample `k` of the block. -/
theorem loadsOf_action (k : Fin 8) : (loadsOf X k).a (ix3 0 0 0) = X.x4 (ix3 k 0 0) := ld_sample X.x4 k _ 0 0

/-- The parameters that are loaded whole. -/
theorem weightsOf_eq : weightsOf X =
    { w0 := View.ld X.x5 r0_3, w1 := View.ld X.x5 r0_4, w2 := View.ld X.x5 r0_5, b1 := X.x6, wg := X.x7, bg := X.x8
      wm := X.x9, bm := X.x10, w2t := X.x11, rep := X.x12, bB := X.x13, eh := X.x14, kp := X.x15, bp2 := X.x16
      wc1h := X.x17, wc1v := X.x18, bc1 := X.x19, wc2 := X.x20, bc2 := X.x21 } := by
  have h : ∀ {e : EltTy} {A D : ℕ} (x : Vec Ideal ⟨2, ![A, D]⟩ e) (h),
      View.ld x (Rect.unit (s := ⟨2, ![A, D]⟩) ![0, 0] (Shape.size ⟨2, ![A, D]⟩) h) = x := fun x h =>
    View.ld_unit_lit h x fun a => by fin_cases a <;> rfl
  simp only [weightsOf, h]

/-- The rows of the first layer's weights, which are loaded one by one. -/
theorem weightsOf_rows (d : Fin 32) : View.ld X.x5 r0_3 (ix2 0 d) = X.x5 (ix2 0 d)
    ∧ View.ld X.x5 r0_4 (ix2 0 d) = X.x5 (ix2 1 d) ∧ View.ld X.x5 r0_5 (ix2 0 d) = X.x5 (ix2 2 d) :=
  ⟨ld_row X.x5 0 _ d, ld_row X.x5 1 _ d, ld_row X.x5 2 _ d⟩

/-- The loads of the parameters, from the blocks' entries. -/
theorem weightsOf_reads (P : Params) (w1 : ∀ a d, X.x5 (ix2 a d) = P.w1 a d)
    (b1 : ∀ d, X.x6 (ix2 0 d) = P.b1 d)
    (wg : ∀ k d, X.x7 (ix2 k d) = P.wg k d)
    (bg : ∀ d, X.x8 (ix2 0 d) = P.bg d)
    (wm : ∀ d, X.x9 (ix2 d 0) = P.wm d)
    (bm : ∀ d, X.x10 (ix2 d 0) = P.bm d)
    (w2t : ∀ d k : Fin 32, X.x11 (ix2 d k) = P.wp1 ⟨32 + k.val, by omega⟩ d)
    (rep : ∀ k x, X.x12 (ix2 k x) = if k = colMach x then 1 else 0)
    (bB : ∀ x, X.x13 (ix2 0 x) = P.bp1 (colFeat x))
    (ehH : ∀ (k : Fin 32) x, X.x14 (ix2 ⟨k.val, by omega⟩ x) = P.wp1 ⟨k.val, by omega⟩ (colFeat x))
    (ehC : ∀ (k : Fin 50) x, X.x14 (ix2 ⟨32 + k.val, by omega⟩ x) = if k = colMach x then P.wp1 64 (colFeat x) else 0)
    (ehQ : ∀ (k : Fin 50) x, X.x14 (ix2 ⟨82 + k.val, by omega⟩ x) = if k = colMach x then P.wp1 65 (colFeat x) else 0)
    (ehP : ∀ (k : Fin 50) x, X.x14 (ix2 ⟨132 + k.val, by omega⟩ x) = if k = colMach x then P.wp1 66 (colFeat x) else 0)
    (kp : ∀ x k, X.x15 (ix2 x k) = if k = colMach x then P.wp2 (colFeat x) else 0)
    (bp2 : X.x16 (ix2 0 0) = P.bp2)
    (wc1h : ∀ k d : Fin 32, X.x17 (ix2 k d) = P.wc1 ⟨k.val, by omega⟩ d)
    (wc1v : ∀ d, X.x18 (ix2 0 d) = P.wc1 32 d)
    (bc1 : ∀ d, X.x19 (ix2 0 d) = P.bc1 d)
    (wc2 : ∀ d, X.x20 (ix2 d 0) = P.wc2 d)
    (bc2 : X.x21 (ix2 0 0) = P.bc2) : (weightsOf X).Reads P := by
  rw [weightsOf_eq]
  exact
    { w0 := fun d => (weightsOf_rows X d).1.trans (w1 0 d)
      w1 := fun d => (weightsOf_rows X d).2.1.trans (w1 1 d)
      w2 := fun d => (weightsOf_rows X d).2.2.trans (w1 2 d)
      b1 := b1
      wg := wg
      bg := bg
      wm := wm
      bm := bm
      w2t := w2t
      rep := rep
      bB := bB
      ehH := ehH
      ehC := ehC
      ehQ := ehQ
      ehP := ehP
      kp := kp
      bp2 := bp2
      wc1h := wc1h
      wc1v := wc1v
      bc1 := bc1
      wc2 := wc2
      bc2 := bc2 }

end Cert.Net

end
-- ==== Proof.Ref.lean ====
/- What the reference computes: each of its three results, at an index, is the value Spec.lean defines on the sample and
   the parameters read off the arguments. -/
module

public import proofs.«01_k».proof.Proof.Spec
public import proofs.«01_k».proof.Proof.Gen.ReferenceIdeal.Read
public import Idealize.ShloMosaic.Lib.Pointwise

@[expose] public section

noncomputable section

namespace Cert.Net

open Cert.ReferenceIdeal Cert.ReferenceIdeal.Gen Cert.ReferenceIdeal.Read Idealize.ShloMosaic

/-- Row `b` of the sample array. -/
def sampleOf (x : S64x70652.Idx → EReal) (b : Fin 64) : Sample where
  s j := x (ix2 b ⟨2 + j.val, by omega⟩)
  r j := x (ix2 b ⟨202 + j.val, by omega⟩)
  t j := x (ix2 b ⟨402 + j.val, by omega⟩)
  v m := x (ix2 b ⟨602 + m.val, by omega⟩)
  c j m := x (ix2 b ⟨652 + (j.val * 50 + m.val), by omega⟩)
  q j m := x (ix2 b ⟨10652 + (j.val * 50 + m.val), by omega⟩)
  p j m := x (ix2 b ⟨20652 + (j.val * 50 + m.val), by omega⟩)
  e j i := x (ix2 b ⟨30652 + (j.val * 200 + i.val), by omega⟩)

/-- The parameter arrays, as functions of their coordinates. -/
def paramsOf (x2 : S3x32.Idx → EReal) (x3 : S32.Idx → EReal) (x4 : S32x32.Idx → EReal) (x5 : S32.Idx → EReal)
    (x6 : S1x32.Idx → EReal) (x7 : S32.Idx → EReal) (x8 : S67x32.Idx → EReal) (x9 : S32.Idx → EReal)
    (x10 : S32x1.Idx → EReal) (x11 : S1.Idx → EReal) (x12 : S33x32.Idx → EReal) (x13 : S32.Idx → EReal)
    (x14 : S32x1.Idx → EReal) (x15 : S1.Idx → EReal) : Params where
  w1 i d := x2 (ix2 i d)
  b1 d := x3 (ix1 d)
  wg i d := x4 (ix2 i d)
  bg d := x5 (ix1 d)
  wm d := x6 (ix2 0 d)
  bm d := x7 (ix1 d)
  wp1 i d := x8 (ix2 i d)
  bp1 d := x9 (ix1 d)
  wp2 d := x10 (ix2 d 0)
  bp2 := x11 (ix1 0)
  wc1 i d := x12 (ix2 i d)
  bc1 d := x13 (ix1 d)
  wc2 d := x14 (ix2 d 0)
  bc2 := x15 (ix1 0)

variable (x0 : S64x70652.Idx → EReal) (x1 : S64.Idx → BitVec 32) (x2 : S3x32.Idx → EReal) (x3 : S32.Idx → EReal)
  (x4 : S32x32.Idx → EReal) (x5 : S32.Idx → EReal) (x6 : S1x32.Idx → EReal) (x7 : S32.Idx → EReal)
  (x8 : S67x32.Idx → EReal) (x9 : S32.Idx → EReal) (x10 : S32x1.Idx → EReal) (x11 : S1.Idx → EReal)
  (x12 : S33x32.Idx → EReal) (x13 : S32.Idx → EReal) (x14 : S32x1.Idx → EReal) (x15 : S1.Idx → EReal)

/-- A choice by the disjunction of two tests. -/
theorem select_or {α : Type} (p q : Prop) [Decidable p] [Decidable q] (x y : α) :
    Scalar.select (IntOp.ori (BitVec.ofBool (decide p)) (BitVec.ofBool (decide q))) x y
      = open Classical in if p ∨ q then x else y := by
  by_cases hp : p <;> by_cases hq : q <;> simp [hp, hq, Scalar.select, IntOp.ori]

/-- A word below 10000 read as a signed number. -/
theorem word_toInt (a : Fin 10000) : (BitVec.ofNat 32 a.val).toInt = a.val := by
  rw [BitVec.toInt_eq_toNat_of_lt] <;> rw [BitVec.toNat_ofNat, Nat.mod_eq_of_lt (by omega)]
  omega

/-- A word below 10000 is not negative. -/
theorem word_not_neg (a : Fin 10000) : IntOp.cmpi .slt (BitVec.ofNat 32 a.val) 0#32 = 0#1 := by
  simp only [IntOp.cmpi, BitVec.slt, word_toInt]
  rw [decide_eq_false (by simp)]
  rfl

/-- A word below 10000 is at least 0 and at most 9999. -/
theorem word_between (a : Fin 10000) :
    IntOp.andi (IntOp.cmpi .sge (BitVec.ofNat 32 a.val) 0#32) (IntOp.cmpi .sle (BitVec.ofNat 32 a.val) 9999#32) = 1#1 := by
  have h := word_toInt a
  have h0 : (0#32 : BitVec 32).toInt = 0 := rfl
  have h1 : (9999#32 : BitVec 32).toInt = 9999 := rfl
  simp only [IntOp.cmpi, BitVec.sle, h, h0, h1]
  rw [decide_eq_true (by omega), decide_eq_true (by omega)]
  rfl

/-- The reference's batched take, read at row `b`: the operand's row `b` at the position the start index names, read as a
    signed number and kept inside the row. -/
theorem take_apply (y : S64x10000.Idx → EReal) (idx : IVec S64x1x1 32) (b : Fin 64) :
    Host.gather gather_S64x10000_S64x1x1_S64x1_n_1_0_0_1_2_11 y idx (ix2 b 0)
      = y (ix2 b ⟨min (idx (ix3 b 0 0)).toInt.toNat 9999, by omega⟩) := by
  unfold Host.gather
  refine congrArg y (funext fun a => Fin.ext ?_)
  match a with
  | ⟨0, _⟩ =>
    show GatherDims.start _ _ _ 0 + GatherDims.batchCoord _ _ 0 + GatherDims.offCoord _ _ 0 = _
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show GatherDims.start _ _ _ 1 + GatherDims.batchCoord _ _ 1 + GatherDims.offCoord _ _ 1 = _
    rw [GatherDims.batchCoord_eq_zero _ _ _ (by decide), GatherDims.offCoord_eq_zero _ _ _ (by decide)]
    simp only [Nat.add_zero]
    have hs : ∀ k, GatherDims.siIdx gather_S64x10000_S64x1x1_S64x1_n_1_0_0_1_2_11 (ix2 b 0) k = ix3 b 0 0 := fun k =>
      funext fun c => Fin.ext (by
        match c with
        | ⟨0, _⟩ => rfl
        | ⟨1, _⟩ => rfl
        | ⟨2, _⟩ => exact Nat.lt_one_iff.mp (Fin.isLt _))
    unfold GatherDims.start
    rw [dif_pos (by decide), hs]
    rfl

variable {P : Params} (hP : P = paramsOf x2 x3 x4 x5 x6 x7 x8 x9 x10 x11 x12 x13 x14 x15)

include hP

/-- The reference's hidden rows of the jobs before the neighbours are added. -/
theorem ref_hid0 (b : Fin 64) (j : Fin 200) (d : Fin 32) :
    val_main_v20 (F := Ideal) x0 x2 x3 (ix3 b j d) = hid0 P (sampleOf x0 b) j d := by
  subst hP
  pointwise [val_main_v20, val_main_v19, val_main_v18, val_main_v17, val_main_v16, val_main_v15, val_main_v14,
    val_main_v13, val_main_v12, val_main_v2, val_main_v1, val_main_v0, val_main_call0_v0, val_main_call0_cst]
  rw [Fin.sum_univ_three]
  rfl

/-- The reference's hidden rows of the jobs. -/
theorem ref_hid (b : Fin 64) (j : Fin 200) (d : Fin 32) :
    val_main_v27 (F := Ideal) x0 x2 x3 x4 x5 (ix3 b j d) = hid P (sampleOf x0 b) j d := by
  have h0 := fun j d => ref_hid0 x0 x2 x3 x4 x5 x6 x7 x8 x9 x10 x11 x12 x13 x14 x15 hP b j d
  subst hP
  pointwise [val_main_v27, val_main_v26, val_main_v25, val_main_v24, val_main_v23, val_main_v22, val_main_v21,
    val_main_v11, val_main_v10, val_main_call1_v0, val_main_call1_cst]
  simp only [h0]
  rfl

/-- The reference's hidden rows of the machines. -/
theorem ref_mach (b : Fin 64) (m : Fin 50) (d : Fin 32) :
    val_main_v33 (F := Ideal) x0 x6 x7 (ix3 b m d) = mach P (sampleOf x0 b) m d := by
  subst hP
  pointwise [val_main_v33, val_main_v32, val_main_v31, val_main_v30, val_main_v29, val_main_v28, val_main_v3,
    val_main_call2_v0, val_main_call2_cst]
  rw [Fin.sum_univ_one]
  rfl

/-- The reference's first layer of the scores. -/
theorem ref_layer (b : Fin 64) (j : Fin 200) (m : Fin 50) (d : Fin 32) :
    val_main_v45 (F := Ideal) x0 x2 x3 x4 x5 x6 x7 x8 x9 (ix4 b j m d) = layer P (sampleOf x0 b) j m d := by
  have hh := fun j d => ref_hid x0 x2 x3 x4 x5 x6 x7 x8 x9 x10 x11 x12 x13 x14 x15 hP b j d
  have hm := fun m d => ref_mach x0 x2 x3 x4 x5 x6 x7 x8 x9 x10 x11 x12 x13 x14 x15 hP b m d
  pointwise [val_main_v45, val_main_v44, val_main_v43, val_main_v42, val_main_v41, val_main_v40, val_main_v39,
    val_main_v38, val_main_v37, val_main_v36, val_main_v35, val_main_v34, val_main_v9, val_main_v8, val_main_v7,
    val_main_v6, val_main_v5, val_main_v4]
  rw [sum_67]
  simp only [hh, hm]
  subst hP
  refine congrArg (· + x9 (ix1 d)) (congr (congrArg HAdd.hAdd (congr (congrArg HAdd.hAdd (congr (congrArg HAdd.hAdd
    (congr (congrArg HAdd.hAdd (Finset.sum_congr rfl fun k _ => ?_)) (Finset.sum_congr rfl fun k _ => ?_))) ?_)) ?_)) ?_)
  · rw [dif_pos k.isLt]
    rfl
  · rw [dif_neg (by omega), dif_pos (by omega)]
    simp only [Nat.add_sub_cancel_left]
    rfl
  · rfl
  · rfl
  · rfl

/-- The reference's masked scores. -/
theorem ref_score (b : Fin 64) (j : Fin 200) (m : Fin 50) :
    val_main_v59 (F := Ideal) x0 x2 x3 x4 x5 x6 x7 x8 x9 x10 x11 (ix3 b j m) = score P (sampleOf x0 b) j m := by
  have hl := fun d => ref_layer x0 x2 x3 x4 x5 x6 x7 x8 x9 x10 x11 x12 x13 x14 x15 hP b j m d
  pointwise [val_main_v59, val_main_call4_v1, val_main_call4_v0, val_main_cst_1, val_main_v58, val_main_v57, val_main_v56,
    val_main_v55, val_main_cst_0, val_main_v54, val_main_v53, val_main_cst, val_main_v52, val_main_v51, val_main_v50,
    val_main_v49, val_main_v48, val_main_v47, val_main_v46, val_main_call3_v0, val_main_call3_cst, val_main_v5,
    val_main_v4, val_main_v1]
  simp only [hl]
  subst hP
  exact select_or _ _ _ _

/-- The reference's row of masked scores. -/
theorem ref_scores (b : Fin 64) (k : Fin 10000) :
    val_main_v60 (F := Ideal) x0 x2 x3 x4 x5 x6 x7 x8 x9 x10 x11 (ix2 b k) = scores P (sampleOf x0 b) k := by
  have hs := fun j m => ref_score x0 x2 x3 x4 x5 x6 x7 x8 x9 x10 x11 x12 x13 x14 x15 hP b j m
  pointwise [val_main_v60]
  simp only [hs]
  rfl

/-- The reference's mean of a column of hidden rows. -/
theorem ref_mean (b : Fin 64) (d : Fin 32) :
    val_main_v70 (F := Ideal) x0 x2 x3 x4 x5 (ix2 b d)
      = Ideal.div (∑ j : Fin 200, hid P (sampleOf x0 b) j d) (Ideal.ofBits .f32 0x43480000#32) := by
  have hh := fun j d => ref_hid x0 x2 x3 x4 x5 x6 x7 x8 x9 x10 x11 x12 x13 x14 x15 hP b j d
  pointwise [val_main_v70, val_main_v69, val_main_cst_4, val_main_v68, val_main_cst_3]
  simp only [hh]

omit hP in
/-- The reference's mean of the machines' numbers. -/
theorem ref_mean_v (b : Fin 64) :
    val_main_v74 (F := Ideal) x0 (ix2 b 0)
      = Ideal.div (∑ m : Fin 50, (sampleOf x0 b).v m) (Ideal.ofBits .f32 0x42480000#32) := by
  pointwise [val_main_v74, val_main_v73, val_main_v72, val_main_cst_6, val_main_v71, val_main_cst_5, val_main_v3]
  rfl

/-- The reference's first layer of the critic. -/
theorem ref_critic0 (b : Fin 64) (d : Fin 32) :
    val_main_v79 (F := Ideal) x0 x2 x3 x4 x5 x12 x13 (ix2 b d) = critic0 P (sampleOf x0 b) d := by
  have hh := fun d => ref_mean x0 x2 x3 x4 x5 x6 x7 x8 x9 x10 x11 x12 x13 x14 x15 hP b d
  pointwise [val_main_v79, val_main_v78, val_main_v77, val_main_v76, val_main_v75]
  simp only [hh, ref_mean_v, Fin.sum_univ_one]
  subst hP
  rfl

/-- The reference's critic. -/
theorem ref_critic (b : Fin 64) :
    val_main_v87 (F := Ideal) x0 x2 x3 x4 x5 x12 x13 x14 x15 (ix3 b 0 0) = critic P (sampleOf x0 b) := by
  have hc := fun d => ref_critic0 x0 x2 x3 x4 x5 x6 x7 x8 x9 x10 x11 x12 x13 x14 x15 hP b d
  pointwise [val_main_v87, val_main_v84, val_main_v83, val_main_v82, val_main_v81, val_main_v80, val_main_call7_v0,
    val_main_call7_cst]
  simp only [hc]
  subst hP
  rfl

/-- The reference's log-softmax of the scores. -/
theorem ref_logp (b : Fin 64) (k : Fin 10000) :
    val_main_v61 (F := Ideal) x0 x2 x3 x4 x5 x6 x7 x8 x9 x10 x11 (ix2 b k) = logp (scores P (sampleOf x0 b)) k := by
  have hs := fun k => ref_scores x0 x2 x3 x4 x5 x6 x7 x8 x9 x10 x11 x12 x13 x14 x15 hP b k
  pointwise [val_main_v61, val_main_call5_v10, val_main_call5_v9, val_main_call5_v8, val_main_call5_v7,
    val_main_call5_cst_1, val_main_call5_v6, val_main_call5_v5, val_main_call5_v4, val_main_call5_v3,
    val_main_call5_v2, val_main_call5_v1, val_main_call5_cst_0, val_main_call5_v0, val_main_call5_cst]
  simp only [hs, ofBits_neg_inf, bot_le, max_eq_right, logp, mass, top]

/-- The reference's entropy. -/
theorem ref_ent (b : Fin 64) :
    val_main_v86 (F := Ideal) x0 x2 x3 x4 x5 x6 x7 x8 x9 x10 x11 (ix3 b 0 0) = ent (scores P (sampleOf x0 b)) := by
  have hs := fun k => ref_logp x0 x2 x3 x4 x5 x6 x7 x8 x9 x10 x11 x12 x13 x14 x15 hP b k
  pointwise [val_main_v86, val_main_v67, val_main_v66, val_main_cst_2, val_main_v65, val_main_v62]
  simp only [hs]
  rfl

omit hP in
/-- The start index of the reference's take: the action itself when it is one of the pairs. -/
theorem ref_start (b : Fin 64) (i : Fin 1) (a : Fin 10000) (ha : x1 (ix1 b) = BitVec.ofNat 32 a.val) :
    val_main_call6_v5 (F := Ideal) x1 (ix3 b 0 i) = BitVec.ofNat 32 a.val := by
  pointwise [val_main_call6_v5, val_main_call6_v4, val_main_call6_v3, val_main_call6_v2,
    val_main_call6_c_0, val_main_call6_v1, val_main_call6_v0, val_main_call6_c, val_main_v63]
  rw [ha]
  rw [word_not_neg]
  rfl

/-- The reference's logarithm of the probability of the chosen pair. -/
theorem ref_chosen (b : Fin 64) (a : Fin 10000) (ha : x1 (ix1 b) = BitVec.ofNat 32 a.val) :
    val_main_v85 (F := Ideal) x0 x1 x2 x3 x4 x5 x6 x7 x8 x9 x10 x11 (ix3 b 0 0) = logp (scores P (sampleOf x0 b)) a := by
  have hs := fun k => ref_logp x0 x2 x3 x4 x5 x6 x7 x8 x9 x10 x11 x12 x13 x14 x15 hP b k
  have ht : val_main_call6_v13 (F := Ideal) x0 x1 x2 x3 x4 x5 x6 x7 x8 x9 x10 x11 (ix2 b 0)
      = logp (scores P (sampleOf x0 b)) a := by
    unfold val_main_call6_v13
    rw [take_apply, hs]
    refine congrArg _ (Fin.ext ?_)
    show min (BitVec.toInt _).toNat 9999 = a.val
    rw [ref_start x1 b 0 a ha, word_toInt]
    omega
  have hm : val_main_call6_v12 (F := Ideal) x1 (ix2 b 0) = 1#1 := by
    pointwise [val_main_call6_v12, val_main_call6_c_3,
      val_main_call6_v11, val_main_call6_v10, val_main_call6_v9, val_main_call6_v8, val_main_call6_v7, val_main_call6_v6,
      val_main_call6_c_2, val_main_call6_c_1]
    simp only [ref_start x1 b _ a ha, word_between, Finset.univ_unique, Finset.fold_singleton]
    rfl
  pointwise [val_main_v85, val_main_v64]
  rw [hm, ht]
  rfl

end Cert.Net

end
-- ==== Proof.Host.lean ====
/- What the region finds in the arrays its windows cut: the rows of the sample array, and the parameters in the layouts
   the kernel reads, each entry an entry of an argument. -/
module

public import proofs.«01_k».proof.Proof.KernelIdealFrame
public import proofs.«01_k».proof.Proof.Body
public import proofs.«01_k».proof.Proof.Ref
public import Idealize.ShloMosaic.Lib.StableHlo.ReadAt

@[expose] public section

set_option maxRecDepth 16384

noncomputable section

namespace Cert.Net

open Cert.KernelIdeal Cert.KernelIdeal.Gen Idealize.ShloMosaic Idealize.ShloMosaic.TcCoe Idealize.SL.Sem

variable (m : (ℓ : Loc nD τ sig) → Buf (Elt Ideal) ℓ) (c : Dev nD)

/-- The parameters among the kernel's arguments. -/
def argParams : Params :=
  paramsOf (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15))

/-- Row `b` of the sample array among the kernel's arguments. -/
def argSample (b : Fin 64) : Sample := sampleOf (m ((c : Thread nD τ).loc main_arg0)) b

/-- The contents of a host array when the region starts. -/
def arr (b : Ref sig .tc) : Buf (Elt Ideal) ((c : Thread nD τ).loc b) := V m c b

/-! ### The sample array, cut into its parts -/

/-- Layer 0 of the job array: each job's first number. -/
theorem entry_job0 (b : Fin 64) (j : Fin 200) : (arr m c main_v1 (ix4 b 0 j 0) : EReal) = (argSample m c b).s j := by
  unfold arr V
  after_reads_at
  exact congrArg (m ((c : Thread nD τ).loc main_arg0)) (congrArg (ix2 b) (Fin.ext (by simp)))

/-- Layer 1 of the job array: each job's remaining number, by which jobs are masked. -/
theorem entry_job1 (b : Fin 64) (j : Fin 200) : (arr m c main_v1 (ix4 b 1 j 0) : EReal) = (argSample m c b).r j := by
  unfold arr V
  after_reads_at
  exact congrArg (m ((c : Thread nD τ).loc main_arg0)) (congrArg (ix2 b) (Fin.ext (by simp; omega)))

/-- Layer 2 of the job array: each job's third number. -/
theorem entry_job2 (b : Fin 64) (j : Fin 200) : (arr m c main_v1 (ix4 b 2 j 0) : EReal) = (argSample m c b).t j := by
  unfold arr V
  after_reads_at
  exact congrArg (m ((c : Thread nD τ).loc main_arg0)) (congrArg (ix2 b) (Fin.ext (by simp; omega)))

/-- The machine array: each machine's number. -/
theorem entry_mach (b : Fin 64) (j : Fin 50) : (arr m c main_v3 (ix3 b 0 j) : EReal) = (argSample m c b).v j := by
  unfold arr V
  after_reads_at
  rfl

/-- Layer 0 of the pair array: the first number of each job and machine. -/
theorem entry_pair0 (b : Fin 64) (j : Fin 200) (k : Fin 50) :
    (arr m c main_v6 (ix4 b 0 j k) : EReal) = (argSample m c b).c j k := by
  unfold arr V
  after_reads_at
  exact congrArg (m ((c : Thread nD τ).loc main_arg0)) (congrArg (ix2 b) (Fin.ext (by simp)))

/-- Layer 1 of the pair array: the second number of each job and machine. -/
theorem entry_pair1 (b : Fin 64) (j : Fin 200) (k : Fin 50) :
    (arr m c main_v6 (ix4 b 1 j k) : EReal) = (argSample m c b).q j k := by
  unfold arr V
  after_reads_at
  exact congrArg (m ((c : Thread nD τ).loc main_arg0)) (congrArg (ix2 b) (Fin.ext (by simp; omega)))

/-- Layer 2 of the pair array: the third number of each job and machine. -/
theorem entry_pair2 (b : Fin 64) (j : Fin 200) (k : Fin 50) :
    (arr m c main_v6 (ix4 b 2 j k) : EReal) = (argSample m c b).p j k := by
  unfold arr V
  after_reads_at
  exact congrArg (m ((c : Thread nD τ).loc main_arg0)) (congrArg (ix2 b) (Fin.ext (by simp; omega)))

/-- The edge array: the weight from job to job. -/
theorem entry_edge (b : Fin 64) (j i : Fin 200) : (arr m c main_v9 (ix3 b j i) : EReal) = (argSample m c b).e j i := by
  unfold arr V
  after_reads_at
  rfl

/-- The action array: the sample's action word. -/
theorem entry_action (b : Fin 64) :
    (arr m c main_v10 (ix3 b 0 0) : BitVec 32) = m ((c : Thread nD τ).loc main_arg1) (ix1 b) := by
  unfold arr V
  after_reads_at

/-! ### The parameters that are taken as they are -/

/-- The first layer's weights. -/
theorem entry_w1 (a : Fin 3) (d : Fin 32) : (arr m c main_arg2 (ix2 a d) : EReal) = (argParams m c).w1 a d := by
  unfold arr
  rw [V_main_arg2]
  rfl

/-- The graph layer's weights. -/
theorem entry_wg (k d : Fin 32) : (arr m c main_arg4 (ix2 k d) : EReal) = (argParams m c).wg k d := by
  unfold arr
  rw [V_main_arg4]
  rfl

/-- The critic's last weights, a column. -/
theorem entry_wc2 (d : Fin 32) : (arr m c main_arg14 (ix2 d 0) : EReal) = (argParams m c).wc2 d := by
  unfold arr
  rw [V_main_arg14]
  rfl

/-! ### The parameters that are only reshaped -/

/-- The first layer's bias, as a row. -/
theorem entry_b1 (d : Fin 32) : (arr m c main_v48 (ix2 0 d) : EReal) = (argParams m c).b1 d := by
  unfold arr V
  after_reads_at
  rfl

/-- The graph layer's bias, as a row. -/
theorem entry_bg (d : Fin 32) : (arr m c main_v49 (ix2 0 d) : EReal) = (argParams m c).bg d := by
  unfold arr V
  after_reads_at
  rfl

/-- The machines' weights, as a column. -/
theorem entry_wm (d : Fin 32) : (arr m c main_v51 (ix2 d 0) : EReal) = (argParams m c).wm d := by
  unfold arr V
  after_reads_at
  rfl

/-- The machines' bias, as a column. -/
theorem entry_bm (d : Fin 32) : (arr m c main_v52 (ix2 d 0) : EReal) = (argParams m c).bm d := by
  unfold arr V
  after_reads_at
  rfl

/-- The rows 32 to 63 of the score's first layer, turned over. -/
theorem entry_w2t (d k : Fin 32) :
    (arr m c main_v54 (ix2 d k) : EReal) = (argParams m c).wp1 ⟨32 + k.val, by omega⟩ d := by
  unfold arr V
  after_reads_at
  rfl

/-- The score's last bias, alone in an array. -/
theorem entry_bp2 : (arr m c main_v55 (ix2 0 0) : EReal) = (argParams m c).bp2 := by
  unfold arr V
  after_reads_at
  rfl

/-- The critic's first layer without its last row. -/
theorem entry_wc1h (k d : Fin 32) : (arr m c main_v44 (ix2 k d) : EReal) = (argParams m c).wc1 ⟨k.val, by omega⟩ d := by
  unfold arr V
  after_reads_at
  rfl

/-- The last row of the critic's first layer. -/
theorem entry_wc1v (d : Fin 32) : (arr m c main_v47 (ix2 0 d) : EReal) = (argParams m c).wc1 32 d := by
  unfold arr V
  after_reads_at
  rfl

/-- The critic's first bias, as a row. -/
theorem entry_bc1 (d : Fin 32) : (arr m c main_v56 (ix2 0 d) : EReal) = (argParams m c).bc1 d := by
  unfold arr V
  after_reads_at
  rfl

/-- The critic's last bias, alone in an array. -/
theorem entry_bc2 : (arr m c main_v57 (ix2 0 0) : EReal) = (argParams m c).bc2 := by
  unfold arr V
  after_reads_at
  rfl

/-! ### The parameters laid out thirty-two columns to a machine -/

/-- The unit matrix as the host computes it, a one where the row's word is the column's, times a number. -/
theorem unit_mul (a b : Fin 50) (y : EReal) :
    (FloatOps.uitofp .f32 (IntOp.cmpi .eq (IntOp.addi (BitVec.ofNat 32 a.val) 0#32) (BitVec.ofNat 32 b.val)) : Ideal .f32) * y
      = if a = b then y else 0 := by
  have h0 : IntOp.addi (BitVec.ofNat 32 a.val) 0#32 = BitVec.ofNat 32 a.val := BitVec.add_zero _
  rw [h0]
  by_cases h : a = b
  · subst h
    rw [if_pos rfl]
    have h1 : IntOp.cmpi .eq (BitVec.ofNat 32 a.val) (BitVec.ofNat 32 a.val) = 1#1 := by simp [IntOp.cmpi]
    rw [h1]
    show ((1 : ℕ) : EReal) * y = y
    rw [Nat.cast_one, one_mul]
  · rw [if_neg h]
    have hne : BitVec.ofNat 32 a.val ≠ BitVec.ofNat 32 b.val := fun e => by
      have := congrArg BitVec.toNat e
      rw [BitVec.toNat_ofNat, BitVec.toNat_ofNat, Nat.mod_eq_of_lt (by omega), Nat.mod_eq_of_lt (by omega)] at this
      exact h (Fin.ext this)
    have h1 : IntOp.cmpi .eq (BitVec.ofNat 32 a.val) (BitVec.ofNat 32 b.val) = 0#1 := by
      have hb : (BitVec.ofNat 32 a.val == BitVec.ofNat 32 b.val) = false := beq_eq_false_iff_ne.mpr hne
      simp [IntOp.cmpi, hb]
    rw [h1]
    show ((0 : ℕ) : EReal) * y = 0
    rw [Nat.cast_zero, zero_mul]

/-- The repeating matrix: a one where the column belongs to the row's machine, a zero elsewhere. -/
theorem entry_rep (k : Fin 50) (x : Fin 1600) :
    (arr m c main_v39 (ix2 k x) : EReal) = if k = colMach x then (1 : EReal) else (0 : EReal) := by
  unfold arr V
  after_reads_at
  have h := unit_mul k (colMach x) 1
  rw [mul_one] at h
  exact h

/-- The score's first bias, repeated for each machine. -/
theorem entry_bB (x : Fin 1600) : (arr m c main_v43 (ix2 0 x) : EReal) = (argParams m c).bp1 (colFeat x) := by
  unfold arr V
  after_reads_at
  rfl

/-- The score's last weights, each machine's in its own rows and column, zeros elsewhere. -/
theorem entry_kp (x : Fin 1600) (k : Fin 50) :
    (arr m c main_v36 (ix2 x k) : EReal) = if k = colMach x then (argParams m c).wp2 (colFeat x) else 0 := by
  unfold arr V
  after_reads_at
  refine (unit_mul (colMach x) k ((argParams m c).wp2 (colFeat x))).trans ?_
  simp only [eq_comm]

/-- The joined first layer, rows 0 to 31: the hidden rows' weights, repeated for each machine. -/
theorem entry_ehH (k : Fin 32) (x : Fin 1600) :
    (arr m c main_v34 (ix2 ⟨k.val, by omega⟩ x) : EReal) = (argParams m c).wp1 ⟨k.val, by omega⟩ (colFeat x) := by
  unfold arr V
  after_reads_at
  after_reads_at
  rfl

/-- The joined first layer, rows 32 to 81: the weights of the first pair number, each machine's in its own columns. -/
theorem entry_ehC (k : Fin 50) (x : Fin 1600) : (arr m c main_v34 (ix2 ⟨32 + k.val, by omega⟩ x) : EReal)
    = if k = colMach x then (argParams m c).wp1 64 (colFeat x) else 0 := by
  unfold arr V
  after_reads_at
  after_reads_at
  exact unit_mul k (colMach x) ((argParams m c).wp1 64 (colFeat x))

/-- The joined first layer, rows 82 to 131: the weights of the second pair number, each machine's in its own columns. -/
theorem entry_ehQ (k : Fin 50) (x : Fin 1600) : (arr m c main_v34 (ix2 ⟨82 + k.val, by omega⟩ x) : EReal)
    = if k = colMach x then (argParams m c).wp1 65 (colFeat x) else 0 := by
  unfold arr V
  after_reads_at
  have hk : (⟨82 + k.val - 32 - 50, by omega⟩ : Fin 50) = k := Fin.ext (by show 82 + k.val - 32 - 50 = k.val; omega)
  rw [dif_neg (by omega), dif_neg (by omega), dif_pos (by omega), hk]
  after_reads_at
  exact unit_mul k (colMach x) ((argParams m c).wp1 65 (colFeat x))

/-- The joined first layer, rows 132 to 181: the weights of the third pair number, each machine's in its own columns. -/
theorem entry_ehP (k : Fin 50) (x : Fin 1600) : (arr m c main_v34 (ix2 ⟨132 + k.val, by omega⟩ x) : EReal)
    = if k = colMach x then (argParams m c).wp1 66 (colFeat x) else 0 := by
  unfold arr V
  after_reads_at
  have hk : (⟨132 + k.val - 32 - 50 - 50, by omega⟩ : Fin 50) = k :=
    Fin.ext (by show 132 + k.val - 32 - 50 - 50 = k.val; omega)
  rw [dif_neg (by omega), dif_neg (by omega), dif_neg (by omega), hk]
  after_reads_at
  exact unit_mul k (colMach x) ((argParams m c).wp1 66 (colFeat x))

end Cert.Net

end
-- ==== Proof.Reads.lean ====
/- A grid point's block of any array that a window cuts, read at an entry. -/
module

public import proofs.«01_k».proof.Proof.KernelIdealFrame
public import Idealize.ShloMosaic.Lib.Pipeline.ValueKit

@[expose] public section

set_option maxRecDepth 16384

noncomputable section

namespace Cert.Net

open Cert.KernelIdeal Cert.KernelIdeal.Gen Idealize.ShloMosaic Idealize.ShloMosaic.TcCoe Idealize.SL.Sem

/-- The sample that grid point `t` handles as its `k`-th. -/
def rowAt (t : Fin cfg0.N) (k : Fin 8) : Fin 64 := ⟨8 * t.val + k.val, by have := t.isLt; have h : cfg0.N = 8 := rfl; omega⟩

/-- Where the sample windows' blocks lie: block `t` along the first axis. -/
theorem sample_idx : ∀ t : Fin cfg0.N, win0_0.index t = ![t.val, 0, 0, 0] ∧ win0_1.index t = ![t.val, 0, 0]
    ∧ win0_2.index t = ![t.val, 0, 0, 0] ∧ win0_3.index t = ![t.val, 0, 0] ∧ win0_4.index t = ![t.val, 0, 0] := by
  decide +kernel

/-- The parameter windows' blocks lie at the arrays' start. -/
theorem param_idx : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0]
    ∧ win0_20.index t = ![0, 0] ∧ win0_21.index t = ![0, 0] := by
  decide +kernel

/-- The job array's window reads the point's samples. -/
theorem read_job (t : Fin cfg0.N) (v : Vec Ideal S64x3x200x1 .f32) (k : Fin 8) (a : Fin 3) (j : Fin 200) :
    (win0_0.blk t).view.read (Elt Ideal) v (ix4 k a j 0) = v (ix4 (rowAt t k) a j 0) := by
  blk_ext [rowAt, sample_idx t]

/-- The machine array's window reads the point's samples. -/
theorem read_mach (t : Fin cfg0.N) (v : Vec Ideal S64x1x50 .f32) (k : Fin 8) (i : Fin 50) :
    (win0_1.blk t).view.read (Elt Ideal) v (ix3 k 0 i) = v (ix3 (rowAt t k) 0 i) := by
  blk_ext [rowAt, sample_idx t]

/-- The pair array's window reads the point's samples. -/
theorem read_pair (t : Fin cfg0.N) (v : Vec Ideal S64x3x200x50 .bf16) (k : Fin 8) (a : Fin 3) (j : Fin 200) (i : Fin 50) :
    (win0_2.blk t).view.read (Elt Ideal) v (ix4 k a j i) = v (ix4 (rowAt t k) a j i) := by
  blk_ext [rowAt, sample_idx t]

/-- The edge array's window reads the point's samples. -/
theorem read_edge (t : Fin cfg0.N) (v : Vec Ideal S64x200x200 .bf16) (k : Fin 8) (j i : Fin 200) :
    (win0_3.blk t).view.read (Elt Ideal) v (ix3 k j i) = v (ix3 (rowAt t k) j i) := by
  blk_ext [rowAt, sample_idx t]

/-- The action array's window reads the point's samples. -/
theorem read_action (t : Fin cfg0.N) (v : Vec Ideal S64x1x1 .i32) (k : Fin 8) :
    (win0_4.blk t).view.read (Elt Ideal) v (ix3 k 0 0) = v (ix3 (rowAt t k) 0 0) := by
  blk_ext [rowAt, sample_idx t]

set_option maxHeartbeats 4000000 in
/-- A parameter window reads its whole array. -/
theorem read_param (t : Fin cfg0.N) :
    (∀ (v : Vec Ideal S3x32 .f32) (i : Fin 3) (j : Fin 32),
        (win0_5.blk t).view.read (Elt Ideal) v (ix2 i j) = v (ix2 i j))
    ∧ (∀ (v : Vec Ideal S1x32 .f32) (i : Fin 1) (j : Fin 32),
        (win0_6.blk t).view.read (Elt Ideal) v (ix2 i j) = v (ix2 i j))
    ∧ (∀ (v : Vec Ideal S32x32 .f32) (i : Fin 32) (j : Fin 32),
        (win0_7.blk t).view.read (Elt Ideal) v (ix2 i j) = v (ix2 i j))
    ∧ (∀ (v : Vec Ideal S1x32 .f32) (i : Fin 1) (j : Fin 32),
        (win0_8.blk t).view.read (Elt Ideal) v (ix2 i j) = v (ix2 i j))
    ∧ (∀ (v : Vec Ideal S32x1 .f32) (i : Fin 32) (j : Fin 1),
        (win0_9.blk t).view.read (Elt Ideal) v (ix2 i j) = v (ix2 i j))
    ∧ (∀ (v : Vec Ideal S32x1 .f32) (i : Fin 32) (j : Fin 1),
        (win0_10.blk t).view.read (Elt Ideal) v (ix2 i j) = v (ix2 i j))
    ∧ (∀ (v : Vec Ideal S32x32 .f32) (i : Fin 32) (j : Fin 32),
        (win0_11.blk t).view.read (Elt Ideal) v (ix2 i j) = v (ix2 i j))
    ∧ (∀ (v : Vec Ideal S50x1600 .bf16) (i : Fin 50) (j : Fin 1600),
        (win0_12.blk t).view.read (Elt Ideal) v (ix2 i j) = v (ix2 i j))
    ∧ (∀ (v : Vec Ideal S1x1600 .f32) (i : Fin 1) (j : Fin 1600),
        (win0_13.blk t).view.read (Elt Ideal) v (ix2 i j) = v (ix2 i j))
    ∧ (∀ (v : Vec Ideal S182x1600 .bf16) (i : Fin 182) (j : Fin 1600),
        (win0_14.blk t).view.read (Elt Ideal) v (ix2 i j) = v (ix2 i j))
    ∧ (∀ (v : Vec Ideal S1600x50 .bf16) (i : Fin 1600) (j : Fin 50),
        (win0_15.blk t).view.read (Elt Ideal) v (ix2 i j) = v (ix2 i j))
    ∧ (∀ (v : Vec Ideal S1x1 .f32) (i : Fin 1) (j : Fin 1),
        (win0_16.blk t).view.read (Elt Ideal) v (ix2 i j) = v (ix2 i j))
    ∧ (∀ (v : Vec Ideal S32x32 .f32) (i : Fin 32) (j : Fin 32),
        (win0_17.blk t).view.read (Elt Ideal) v (ix2 i j) = v (ix2 i j))
    ∧ (∀ (v : Vec Ideal S1x32 .f32) (i : Fin 1) (j : Fin 32),
        (win0_18.blk t).view.read (Elt Ideal) v (ix2 i j) = v (ix2 i j))
    ∧ (∀ (v : Vec Ideal S1x32 .f32) (i : Fin 1) (j : Fin 32),
        (win0_19.blk t).view.read (Elt Ideal) v (ix2 i j) = v (ix2 i j))
    ∧ (∀ (v : Vec Ideal S32x1 .f32) (i : Fin 32) (j : Fin 1),
        (win0_20.blk t).view.read (Elt Ideal) v (ix2 i j) = v (ix2 i j))
    ∧ (∀ (v : Vec Ideal S1x1 .f32) (i : Fin 1) (j : Fin 1),
        (win0_21.blk t).view.read (Elt Ideal) v (ix2 i j) = v (ix2 i j)) := by
  refine ⟨?_, ?_, ?_, ?_, ?_, ?_, ?_, ?_, ?_, ?_, ?_, ?_, ?_, ?_, ?_, ?_, ?_⟩ <;>
    · intro v i j
      blk_ext [param_idx t]

end Cert.Net

end
-- ==== Proof.Blk.lean ====
/- The blocks that a grid point reads: of the sample arrays its own eight samples, of the parameters the whole array. -/
module

public import proofs.«01_k».proof.Proof.Pieces
public import proofs.«01_k».proof.Proof.Host
public import proofs.«01_k».proof.Proof.Reads

@[expose] public section

set_option maxRecDepth 16384
set_option maxHeartbeats 400000

noncomputable section

namespace Cert.Net

open Cert.KernelIdeal Cert.KernelIdeal.Gen Idealize.ShloMosaic Idealize.ShloMosaic.TcCoe Idealize.SL.Sem

/-! ### The blocks at a grid point -/

variable (m : (ℓ : Loc nD τ sig) → Buf (Elt Ideal) ℓ) (c : Dev nD)

/-- The input windows' blocks at grid point `t`. -/
def blocksAt (t : Fin cfg0.N) : Blocks :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t, iblk m c 15 t,
    iblk m c 16 t, iblk m c 17 t, iblk m c 18 t, iblk m c 19 t, iblk m c 20 t, iblk m c 21 t⟩

/-- Each window's block at a grid point. -/
theorem blocksAt_eqs (t : Fin cfg0.N) :
    (blocksAt m c t).x0 = iblk m c 0 t
    ∧ (blocksAt m c t).x1 = iblk m c 1 t
    ∧ (blocksAt m c t).x2 = iblk m c 2 t
    ∧ (blocksAt m c t).x3 = iblk m c 3 t
    ∧ (blocksAt m c t).x4 = iblk m c 4 t
    ∧ (blocksAt m c t).x5 = iblk m c 5 t
    ∧ (blocksAt m c t).x6 = iblk m c 6 t
    ∧ (blocksAt m c t).x7 = iblk m c 7 t
    ∧ (blocksAt m c t).x8 = iblk m c 8 t
    ∧ (blocksAt m c t).x9 = iblk m c 9 t
    ∧ (blocksAt m c t).x10 = iblk m c 10 t
    ∧ (blocksAt m c t).x11 = iblk m c 11 t
    ∧ (blocksAt m c t).x12 = iblk m c 12 t
    ∧ (blocksAt m c t).x13 = iblk m c 13 t
    ∧ (blocksAt m c t).x14 = iblk m c 14 t
    ∧ (blocksAt m c t).x15 = iblk m c 15 t
    ∧ (blocksAt m c t).x16 = iblk m c 16 t
    ∧ (blocksAt m c t).x17 = iblk m c 17 t
    ∧ (blocksAt m c t).x18 = iblk m c 18 t
    ∧ (blocksAt m c t).x19 = iblk m c 19 t
    ∧ (blocksAt m c t).x20 = iblk m c 20 t
    ∧ (blocksAt m c t).x21 = iblk m c 21 t :=
  Blocks.parts (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

/-- The job array's block at a grid point. -/
theorem block_job (t : Fin cfg0.N) (k : Fin 8) (a : Fin 3) (j : Fin 200) :
    (blocksAt m c t).x0 (ix4 k a j 0) = arr m c main_v1 (ix4 (rowAt t k) a j 0) :=
  (congrFun (blocksAt_eqs m c t).1 _).trans (read_job t (arr m c main_v1) k a j)

/-- The machine array's block at a grid point. -/
theorem block_mach (t : Fin cfg0.N) (k : Fin 8) (i : Fin 50) :
    (blocksAt m c t).x1 (ix3 k 0 i) = arr m c main_v3 (ix3 (rowAt t k) 0 i) :=
  (congrFun (blocksAt_eqs m c t).2.1 _).trans (read_mach t (arr m c main_v3) k i)

/-- The pair array's block at a grid point. -/
theorem block_pair (t : Fin cfg0.N) (k : Fin 8) (a : Fin 3) (j : Fin 200) (i : Fin 50) :
    (blocksAt m c t).x2 (ix4 k a j i) = arr m c main_v6 (ix4 (rowAt t k) a j i) :=
  (congrFun (blocksAt_eqs m c t).2.2.1 _).trans (read_pair t (arr m c main_v6) k a j i)

/-- The edge array's block at a grid point. -/
theorem block_edge (t : Fin cfg0.N) (k : Fin 8) (j i : Fin 200) :
    (blocksAt m c t).x3 (ix3 k j i) = arr m c main_v9 (ix3 (rowAt t k) j i) :=
  (congrFun (blocksAt_eqs m c t).2.2.2.1 _).trans (read_edge t (arr m c main_v9) k j i)

/-- The action array's block at a grid point. -/
theorem block_action (t : Fin cfg0.N) (k : Fin 8) :
    (blocksAt m c t).x4 (ix3 k 0 0) = arr m c main_v10 (ix3 (rowAt t k) 0 0) :=
  (congrFun (blocksAt_eqs m c t).2.2.2.2.1 _).trans (read_action t (arr m c main_v10) k)

/-- A parameter window's block is its whole array. -/
theorem block_param (t : Fin cfg0.N) :
    (∀ (i : Fin 3) (j : Fin 32), (blocksAt m c t).x5 (ix2 i j) = arr m c main_arg2 (ix2 i j))
    ∧ (∀ (i : Fin 1) (j : Fin 32), (blocksAt m c t).x6 (ix2 i j) = arr m c main_v48 (ix2 i j))
    ∧ (∀ (i : Fin 32) (j : Fin 32), (blocksAt m c t).x7 (ix2 i j) = arr m c main_arg4 (ix2 i j))
    ∧ (∀ (i : Fin 1) (j : Fin 32), (blocksAt m c t).x8 (ix2 i j) = arr m c main_v49 (ix2 i j))
    ∧ (∀ (i : Fin 32) (j : Fin 1), (blocksAt m c t).x9 (ix2 i j) = arr m c main_v51 (ix2 i j))
    ∧ (∀ (i : Fin 32) (j : Fin 1), (blocksAt m c t).x10 (ix2 i j) = arr m c main_v52 (ix2 i j))
    ∧ (∀ (i : Fin 32) (j : Fin 32), (blocksAt m c t).x11 (ix2 i j) = arr m c main_v54 (ix2 i j))
    ∧ (∀ (i : Fin 50) (j : Fin 1600), (blocksAt m c t).x12 (ix2 i j) = arr m c main_v39 (ix2 i j))
    ∧ (∀ (i : Fin 1) (j : Fin 1600), (blocksAt m c t).x13 (ix2 i j) = arr m c main_v43 (ix2 i j))
    ∧ (∀ (i : Fin 182) (j : Fin 1600), (blocksAt m c t).x14 (ix2 i j) = arr m c main_v34 (ix2 i j))
    ∧ (∀ (i : Fin 1600) (j : Fin 50), (blocksAt m c t).x15 (ix2 i j) = arr m c main_v36 (ix2 i j))
    ∧ (∀ (i : Fin 1) (j : Fin 1), (blocksAt m c t).x16 (ix2 i j) = arr m c main_v55 (ix2 i j))
    ∧ (∀ (i : Fin 32) (j : Fin 32), (blocksAt m c t).x17 (ix2 i j) = arr m c main_v44 (ix2 i j))
    ∧ (∀ (i : Fin 1) (j : Fin 32), (blocksAt m c t).x18 (ix2 i j) = arr m c main_v47 (ix2 i j))
    ∧ (∀ (i : Fin 1) (j : Fin 32), (blocksAt m c t).x19 (ix2 i j) = arr m c main_v56 (ix2 i j))
    ∧ (∀ (i : Fin 32) (j : Fin 1), (blocksAt m c t).x20 (ix2 i j) = arr m c main_arg14 (ix2 i j))
    ∧ (∀ (i : Fin 1) (j : Fin 1), (blocksAt m c t).x21 (ix2 i j) = arr m c main_v57 (ix2 i j)) := by
  obtain ⟨h5, h6, h7, h8, h9, h10, h11, h12, h13, h14, h15, h16, h17, h18, h19, h20, h21⟩ := read_param t
  obtain ⟨-, -, -, -, -, e5, e6, e7, e8, e9, e10, e11, e12, e13, e14, e15, e16, e17, e18, e19, e20, e21⟩ := blocksAt_eqs m c t
  exact ⟨fun i j => (congrFun e5 _).trans (h5 (arr m c main_arg2) i j),
    fun i j => (congrFun e6 _).trans (h6 (arr m c main_v48) i j),
    fun i j => (congrFun e7 _).trans (h7 (arr m c main_arg4) i j),
    fun i j => (congrFun e8 _).trans (h8 (arr m c main_v49) i j),
    fun i j => (congrFun e9 _).trans (h9 (arr m c main_v51) i j),
    fun i j => (congrFun e10 _).trans (h10 (arr m c main_v52) i j),
    fun i j => (congrFun e11 _).trans (h11 (arr m c main_v54) i j),
    fun i j => (congrFun e12 _).trans (h12 (arr m c main_v39) i j),
    fun i j => (congrFun e13 _).trans (h13 (arr m c main_v43) i j),
    fun i j => (congrFun e14 _).trans (h14 (arr m c main_v34) i j),
    fun i j => (congrFun e15 _).trans (h15 (arr m c main_v36) i j),
    fun i j => (congrFun e16 _).trans (h16 (arr m c main_v55) i j),
    fun i j => (congrFun e17 _).trans (h17 (arr m c main_v44) i j),
    fun i j => (congrFun e18 _).trans (h18 (arr m c main_v47) i j),
    fun i j => (congrFun e19 _).trans (h19 (arr m c main_v56) i j),
    fun i j => (congrFun e20 _).trans (h20 (arr m c main_arg14) i j),
    fun i j => (congrFun e21 _).trans (h21 (arr m c main_v57) i j)⟩

end Cert.Net

end
-- ==== Proof.Arr.lean ====
/- What the region computes at a point of its grid, and the arrays it leaves: for each of the 64 samples the logarithm
   of the chosen action's probability, the entropy, and the critic's value. -/
module

public import proofs.«01_k».proof.Proof.Blk
public import proofs.«01_k».proof.Proof.KernelIdealValue

@[expose] public section

set_option maxRecDepth 16384
set_option maxHeartbeats 400000

noncomputable section

namespace Cert.Net

open Cert.KernelIdeal Cert.KernelIdeal.Gen Idealize.ShloMosaic Idealize.ShloMosaic.TcCoe Idealize.SL.Sem

variable (m : (ℓ : Loc nD τ sig) → Buf (Elt Ideal) ℓ) (c : Dev nD)

/-- The loads for a point's `k`-th sample hold that sample. -/
theorem loads_reads (t : Fin cfg0.N) (k : Fin 8) :
    (loadsOf (blocksAt m c t) k).Reads (argSample m c (rowAt t k)) :=
  loadsOf_reads _ k _ (fun j => (block_job m c t k 0 j).trans (entry_job0 m c _ j))
    (fun j => (block_job m c t k 1 j).trans (entry_job1 m c _ j))
    (fun j => (block_job m c t k 2 j).trans (entry_job2 m c _ j))
    (fun i => (block_mach m c t k i).trans (entry_mach m c _ i))
    (fun j i => (block_pair m c t k 0 j i).trans (entry_pair0 m c _ j i))
    (fun j i => (block_pair m c t k 1 j i).trans (entry_pair1 m c _ j i))
    (fun j i => (block_pair m c t k 2 j i).trans (entry_pair2 m c _ j i))
    (fun j i => (block_edge m c t k j i).trans (entry_edge m c _ j i))

/-- The action word that is loaded for a point's `k`-th sample. -/
theorem loads_action (t : Fin cfg0.N) (k : Fin 8) :
    (loadsOf (blocksAt m c t) k).a (ix3 0 0 0) = m ((c : Thread nD τ).loc main_arg1) (ix1 (rowAt t k)) :=
  (loadsOf_action _ k).trans ((block_action m c t k).trans (entry_action m c _))

/-- The loads of the parameters hold them. -/
theorem weights_reads (t : Fin cfg0.N) : (weightsOf (blocksAt m c t)).Reads (argParams m c) := by
  obtain ⟨h5, h6, h7, h8, h9, h10, h11, h12, h13, h14, h15, h16, h17, h18, h19, h20, h21⟩ := block_param m c t
  exact weightsOf_reads _ _ (fun a d => (h5 a d).trans (entry_w1 m c a d))
    (fun d => (h6 0 d).trans (entry_b1 m c d))
    (fun k d => (h7 k d).trans (entry_wg m c k d))
    (fun d => (h8 0 d).trans (entry_bg m c d))
    (fun d => (h9 d 0).trans (entry_wm m c d))
    (fun d => (h10 d 0).trans (entry_bm m c d))
    (fun d k => (h11 d k).trans (entry_w2t m c d k))
    (fun k x => (h12 k x).trans (entry_rep m c k x))
    (fun x => (h13 0 x).trans (entry_bB m c x))
    (fun k x => (h14 _ x).trans (entry_ehH m c k x))
    (fun k x => (h14 _ x).trans (entry_ehC m c k x))
    (fun k x => (h14 _ x).trans (entry_ehQ m c k x))
    (fun k x => (h14 _ x).trans (entry_ehP m c k x))
    (fun x k => (h15 x k).trans (entry_kp m c x k))
    ((h16 0 0).trans (entry_bp2 m c))
    (fun k d => (h17 k d).trans (entry_wc1h m c k d))
    (fun d => (h18 0 d).trans (entry_wc1v m c d))
    (fun d => (h19 0 d).trans (entry_bc1 m c d))
    (fun d => (h20 d 0).trans (entry_wc2 m c d))
    ((h21 0 0).trans (entry_bc2 m c))

/-! ### The arrays the region leaves -/

/-- Where the result windows' blocks lie: block `t` along the first axis. -/
theorem result_idx : ∀ t : Fin cfg0.N, win0_22.index t = ![t.val, 0, 0] ∧ win0_23.index t = ![t.val, 0, 0]
    ∧ win0_24.index t = ![t.val, 0, 0] := by
  decide +kernel

/-- A block that holds `f` of the point's samples, at any index. -/
theorem out_at (f : Fin 64 → EReal) (o : Vec Ideal S8x1x1 .f32) (t : Fin cfg0.N) (h : ∀ k, o (ix3 k 0 0) = f (rowAt t k))
    (x : S8x1x1.Idx) : o x = f (rowAt t (x 0)) := by
  have hx : x = ix3 (x 0) 0 0 := funext fun a => Fin.ext (by
    match a with
    | ⟨0, _⟩ => rfl
    | ⟨1, _⟩ => exact Nat.lt_one_iff.mp (x 1).isLt
    | ⟨2, _⟩ => exact Nat.lt_one_iff.mp (x 2).isLt)
  exact (congrArg o hx).trans (h (x 0))

/-! What the body leaves in the result windows' buffers at a grid point. -/

theorem after_logp (t : Fin cfg0.N) : (dats m 0 c).after 22 t = outLogp (blocksAt m c t) := by
  obtain ⟨e0, e1, e2, e3, e4, e5, e6, e7, e8, e9, e10, e11, e12, e13, e14, e15, e16, e17, e18, e19, e20, e21⟩ :=
    blocksAt_eqs m c t
  unfold outLogp
  rw [after0_22, e0, e1, e2, e3, e4, e5, e6, e7, e8, e9, e10, e11, e12, e13,
    e14, e15, e16, e17, e18, e19, e20, e21]

theorem after_ent (t : Fin cfg0.N) : (dats m 0 c).after 23 t = outEnt (blocksAt m c t) := by
  obtain ⟨e0, e1, e2, e3, e4, e5, e6, e7, e8, e9, e10, e11, e12, e13, e14, e15, e16, e17, e18, e19, e20, e21⟩ :=
    blocksAt_eqs m c t
  unfold outEnt
  rw [after0_23, e0, e1, e2, e3, e4, e5, e6, e7, e8, e9, e10, e11, e12, e13,
    e14, e15, e16, e17, e18, e19, e20, e21]

theorem after_critic (t : Fin cfg0.N) : (dats m 0 c).after 24 t = outCritic (blocksAt m c t) := by
  obtain ⟨e0, e1, e2, e3, e4, e5, e6, e7, e8, e9, e10, e11, e12, e13, e14, e15, e16, e17, e18, e19, e20, e21⟩ :=
    blocksAt_eqs m c t
  unfold outCritic
  rw [after0_24, e0, e1, e2, e3, e4, e5, e6, e7, e8, e9, e10, e11, e12, e13,
    e14, e15, e16, e17, e18, e19, e20, e21]

/-- The array of the log-probabilities: at sample `b`, that of the sample's action. -/
theorem arr_logp (hP : (argParams m c).Real) (hS : ∀ b, (argSample m c b).Real) (act : Fin 64 → Fin 10000)
    (ha : ∀ b, m ((c : Thread nD τ).loc main_arg1) (ix1 b) = BitVec.ofNat 32 (act b).val) :
    (dats m 0 c).arrAt 22 cfg0.N = fun i => logp (scores (argParams m c) (argSample m c (i 0))) (act (i 0)) := by
  have h : ∀ t k, outLogp (blocksAt m c t) (ix3 k 0 0) = (fun b => logp (scores (argParams m c) (argSample m c b)) (act b)) (rowAt t k) := fun t k => by
    rw [outLogp_eq, canon_eight]
    exact bodyLogp_eq (loads_reads m c t k) (weights_reads m c t) hP (hS _) _ ((loads_action m c t k).trans (ha _))
  refine (dats m 0 c).arrAt_eq_of_covers 22 _ (by decide +kernel) fun t hf y => ?_
  blk_simp
  rw [after_logp]
  refine (out_at (fun b => logp (scores (argParams m c) (argSample m c b)) (act b)) (outLogp (blocksAt m c t)) t (h t) _).trans ?_
  refine congrArg (fun b => logp (scores (argParams m c) (argSample m c b)) (act b)) (Fin.ext ?_)
  blk_simp [rowAt, result_idx t]
  show 8 * t.val + (y 0).val = t.val * 8 + (y 0).val
  rw [Nat.mul_comm]

/-- The array of the entropies. -/
theorem arr_ent (hP : (argParams m c).Real) (hS : ∀ b, (argSample m c b).Real) :
    (dats m 0 c).arrAt 23 cfg0.N = fun i => ent (scores (argParams m c) (argSample m c (i 0))) := by
  have h : ∀ t k, outEnt (blocksAt m c t) (ix3 k 0 0) = (fun b => ent (scores (argParams m c) (argSample m c b))) (rowAt t k) := fun t k => by
    rw [outEnt_eq, canon_eight]
    exact bodyEnt_eq (loads_reads m c t k) (weights_reads m c t) hP (hS _)
  refine (dats m 0 c).arrAt_eq_of_covers 23 _ (by decide +kernel) fun t hf y => ?_
  blk_simp
  rw [after_ent]
  refine (out_at (fun b => ent (scores (argParams m c) (argSample m c b))) (outEnt (blocksAt m c t)) t (h t) _).trans ?_
  refine congrArg (fun b => ent (scores (argParams m c) (argSample m c b))) (Fin.ext ?_)
  blk_simp [rowAt, result_idx t]
  show 8 * t.val + (y 0).val = t.val * 8 + (y 0).val
  rw [Nat.mul_comm]

/-- The array of the critic's values. -/
theorem arr_critic :
    (dats m 0 c).arrAt 24 cfg0.N = fun i => critic (argParams m c) (argSample m c (i 0)) := by
  have h : ∀ t k, outCritic (blocksAt m c t) (ix3 k 0 0) = (fun b => critic (argParams m c) (argSample m c b)) (rowAt t k) := fun t k => by
    rw [outCritic_eq, canon_eight]
    exact bodyCritic_eq (loads_reads m c t k) (weights_reads m c t)
  refine (dats m 0 c).arrAt_eq_of_covers 24 _ (by decide +kernel) fun t hf y => ?_
  blk_simp
  rw [after_critic]
  refine (out_at (fun b => critic (argParams m c) (argSample m c b)) (outCritic (blocksAt m c t)) t (h t) _).trans ?_
  refine congrArg (fun b => critic (argParams m c) (argSample m c b)) (Fin.ext ?_)
  blk_simp [rowAt, result_idx t]
  show 8 * t.val + (y 0).val = t.val * 8 + (y 0).val
  rw [Nat.mul_comm]

end Cert.Net

end
-- ==== Proof.Pre.lean ====
/- What the precondition says: the sample array, its first two columns apart, and the parameters the scores are computed
   from hold real numbers, and every action is one of the 10000 pairs. -/
module

public import proofs.«01_k».proof.Pre_finite_scores
public import proofs.«01_k».proof.Proof.Spec
public import Idealize.ShloMosaic.Lib.ReduceAll
public import Idealize.ShloMosaic.Lib.Pointwise

@[expose] public section

set_option maxRecDepth 16384

noncomputable section

namespace Cert.Pre_finite_scores

open Idealize.ShloMosaic Cert.Net

/-- The shapes the precondition's operations take agree. -/
instance facts : Facts where
  slices_S64x70652_S64x70650_0_2 := by decide
  bcast_S_S64x70650 := by decide
  reducesTo_S64x70650_S_d0_1 := by decide
  h_S_ := by decide
  bcast_S_S3x32 := by decide
  reducesTo_S3x32_S_d0_1 := by decide
  bcast_S_S32 := by decide
  reducesTo_S32_S_d0 := by decide
  bcast_S_S32x32 := by decide
  reducesTo_S32x32_S_d0_1 := by decide
  bcast_S_S1x32 := by decide
  reducesTo_S1x32_S_d0_1 := by decide
  bcast_S_S67x32 := by decide
  reducesTo_S67x32_S_d0_1 := by decide
  bcast_S_S32x1 := by decide
  reducesTo_S32x1_S_d0_1 := by decide
  bcast_S_S1 := by decide
  reducesTo_S1_S_d0 := by decide
  bcast_S_S64 := by decide
  reducesTo_S64_S_d0 := by decide

/-- A scalar has one index. -/
instance : Subsingleton S_.Idx := ⟨fun a b => funext fun i => i.elim0⟩

/-- A test that every entry's absolute value is below infinity, passed: every entry is a real number. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) := by
  have h := Host.reduce_andi_all _ _ hr hu j e i
  have ht : Ideal.ofBits .f32 0x7F800000#32 = ⊤ := by
    simp only [Ideal.ofBits, Ideal.ieee]
    rfl
  have h1 : BitVec.ofBool (decide (max (x i) (-x i) < Ideal.ofBits .f32 0x7F800000#32)) = 1#1 := h
  rw [ht] at h1
  apply IsReal.of_abs_lt_top
  by_contra hn
  rw [decide_eq_false hn] at h1
  exact absurd h1 (by decide)

/-- A test that every word lies from 0 below 10000, passed: every word is that of a number below 10000. -/
theorem all_pair (x : IVec S64 32) (j : S_.Idx)
    (e : Host.reduce IntOp.andi (andi (cmpi .sge x (broadcastInDim S64 ![] Facts.bcast_S_S64 (constantI S_ 32 0#32)))
        (cmpi .slt x (broadcastInDim S64 ![] Facts.bcast_S_S64 (constantI S_ 32 10000#32))))
      (constantI S_ 1 1#1) Facts.reducesTo_S64_S_d0 Facts.h_S_ j = 1#1) (i : S64.Idx) :
    ∃ a : Fin 10000, x i = BitVec.ofNat 32 a.val := by
  have h := Host.reduce_andi_all _ _ Facts.reducesTo_S64_S_d0 Facts.h_S_ j e i
  obtain ⟨h1, h2⟩ := IntOp.andi_eq_one.1 h
  have h3 := IntOp.cmpi_sge.1 h1
  have h4 := IntOp.cmpi_slt.1 h2
  have h5 : 0 ≤ (x i).toInt := h3
  have h6 : (x i).toInt < 10000 := h4
  refine ⟨⟨(x i).toInt.toNat, by omega⟩, BitVec.eq_of_toInt_eq ?_⟩
  rw [BitVec.toInt_eq_toNat_cond (BitVec.ofNat 32 _), BitVec.toNat_ofNat]
  show (x i).toInt = if 2 * ((x i).toInt.toNat % 2 ^ 32) < 2 ^ 32 then (((x i).toInt.toNat % 2 ^ 32 : ℕ) : ℤ)
    else (((x i).toInt.toNat % 2 ^ 32 : ℕ) : ℤ) - ((2 ^ 32 : ℕ) : ℤ)
  rw [Nat.mod_eq_of_lt (by omega), if_pos (by omega)]
  omega

/-- What holds at every entry of the array without its first two columns holds from the third column on. -/
theorem from_third (x : FVec Ideal S64x70652 .f32) {p : EReal → Prop}
    (h : ∀ i, p (extractStridedSlice S64x70650 ![0, 2] x Facts.slices_S64x70652_S64x70650_0_2 i))
    (b : Fin 64) (n : Fin 70652) (hn : 2 ≤ n.val) : p (x (ix2 b n)) := by
  have e : extractStridedSlice S64x70650 ![0, 2] x Facts.slices_S64x70652_S64x70650_0_2 (ix2 b ⟨n.val - 2, by omega⟩)
      = x (ix2 b n) := by
    refine congrArg x (funext fun a => ?_)
    match a with
    | ⟨0, _⟩ => exact Fin.ext (Nat.zero_add _)
    | ⟨1, _⟩ => exact Fin.ext (show 2 + (n.val - 2) = n.val by omega)
  exact e ▸ h _

/-- The precondition holds only of real numbers and of actions that are pairs. -/
theorem holds (x0 : FVec Ideal S64x70652 .f32) (x1 : IVec S64 32) (x2 : FVec Ideal S3x32 .f32) (x3 : FVec Ideal S32 .f32) (x4 : FVec Ideal S32x32 .f32) (x5 : FVec Ideal S32 .f32) (x6 : FVec Ideal S1x32 .f32) (x7 : FVec Ideal S32 .f32) (x8 : FVec Ideal S67x32 .f32) (x9 : FVec Ideal S32 .f32) (x10 : FVec Ideal S32x1 .f32) (x11 : FVec Ideal S1 .f32) (x12 : FVec Ideal S33x32 .f32) (x13 : FVec Ideal S32 .f32) (x14 : FVec Ideal S32x1 .f32) (x15 : FVec Ideal S1 .f32)
    (e : fn (F := Ideal) x0 x1 x2 x3 x4 x5 x6 x7 x8 x9 x10 x11 x12 x13 x14 x15 = fun _ => 1#1) :
    (∀ b (n : Fin 70652), 2 ≤ n.val → IsReal (x0 (ix2 b n))) ∧ (∀ i, ∃ a : Fin 10000, x1 i = BitVec.ofNat 32 a.val)
      ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) := by
  have h := congrFun e fun i => i.elim0
  dsimp only [fn, fn_part1, fn_part2, fn_part3] at h
  obtain ⟨h, ha⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  exact ⟨from_third x0 (all_real _ _ _ _ _ h), all_pair x1 _ ha, all_real x2 _ _ _ _ h2, all_real x3 _ _ _ _ h3, all_real x4 _ _ _ _ h4, all_real x5 _ _ _ _ h5, all_real x6 _ _ _ _ h6, all_real x7 _ _ _ _ h7, all_real x8 _ _ _ _ h8, all_real x9 _ _ _ _ h9, all_real x10 _ _ _ _ h10, all_real x11 _ _ _ _ h11⟩

end Cert.Pre_finite_scores

end
-- ==== Proof.Agree.lean ====
/- The precondition read at the kernel's arguments, and the reference's three results as functions of their sample. -/
module

public import proofs.«01_k».proof.Defs
public import proofs.«01_k».proof.Proof.Host
public import proofs.«01_k».proof.Proof.Pre
public import proofs.«01_k».proof.Proof.Gen.ReferenceIdeal.Read

@[expose] public section

set_option maxRecDepth 16384
set_option maxHeartbeats 400000

noncomputable section

namespace Cert.Net

open Idealize.ShloMosaic Idealize.ShloMosaic.TcCoe Idealize.SL.Sem

section Reference

open Cert.ReferenceIdeal Cert.ReferenceIdeal.Gen Cert.ReferenceIdeal.Read

/-- An index of a result names its sample alone. -/
theorem result_index (i : S64x1x1.Idx) : i = ix3 (i 0) 0 0 := by
  funext a
  match a with
  | ⟨0, _⟩ => rfl
  | ⟨1, _⟩ => exact Subsingleton.elim (α := Fin 1) _ _
  | ⟨2, _⟩ => exact Subsingleton.elim (α := Fin 1) _ _

variable (x0 : S64x70652.Idx → EReal) (x1 : S64.Idx → BitVec 32) (x2 : S3x32.Idx → EReal) (x3 : S32.Idx → EReal)
  (x4 : S32x32.Idx → EReal) (x5 : S32.Idx → EReal) (x6 : S1x32.Idx → EReal) (x7 : S32.Idx → EReal)
  (x8 : S67x32.Idx → EReal) (x9 : S32.Idx → EReal) (x10 : S32x1.Idx → EReal) (x11 : S1.Idx → EReal)
  (x12 : S33x32.Idx → EReal) (x13 : S32.Idx → EReal) (x14 : S32x1.Idx → EReal) (x15 : S1.Idx → EReal)
  {P : Params} (hP : P = paramsOf x2 x3 x4 x5 x6 x7 x8 x9 x10 x11 x12 x13 x14 x15)

include hP

/-- The reference's first result: for each sample the logarithm of the probability of its chosen pair. -/
theorem ref_logps (act : Fin 64 → Fin 10000) (ha : ∀ b, x1 (ix1 b) = BitVec.ofNat 32 (act b).val) :
    val_main_v85 (F := Ideal) x0 x1 x2 x3 x4 x5 x6 x7 x8 x9 x10 x11
      = fun i => logp (scores P (sampleOf x0 (i 0))) (act (i 0)) :=
  funext fun i => (congrArg _ (result_index i)).trans
    (ref_chosen x0 x1 x2 x3 x4 x5 x6 x7 x8 x9 x10 x11 x12 x13 x14 x15 hP (i 0) (act (i 0)) (ha (i 0)))

/-- The reference's second result: for each sample the entropy of its probabilities. -/
theorem ref_ents :
    val_main_v86 (F := Ideal) x0 x2 x3 x4 x5 x6 x7 x8 x9 x10 x11 = fun i => ent (scores P (sampleOf x0 (i 0))) :=
  funext fun i => (congrArg _ (result_index i)).trans
    (ref_ent x0 x2 x3 x4 x5 x6 x7 x8 x9 x10 x11 x12 x13 x14 x15 hP (i 0))

/-- The reference's third result: for each sample the critic's value. -/
theorem ref_critics :
    val_main_v87 (F := Ideal) x0 x2 x3 x4 x5 x12 x13 x14 x15 = fun i => critic P (sampleOf x0 (i 0)) :=
  funext fun i => (congrArg _ (result_index i)).trans
    (ref_critic x0 x2 x3 x4 x5 x6 x7 x8 x9 x10 x11 x12 x13 x14 x15 hP (i 0))

end Reference

section Kernel

open Cert.KernelIdeal Cert.KernelIdeal.Gen

/-- Under the precondition, on every device, the samples and the actor's parameters are real numbers and every action
    is the word of a pair's number. -/
theorem args_real (m : (ℓ : Loc nD τ sig) → Buf (Elt Ideal) ℓ) (h : Cert.Pre_KernelIdeal_finite_scores m) (c : Dev nD) :
    (argParams m c).Real ∧ (∀ b, (argSample m c b).Real)
      ∧ ∃ act : Fin 64 → Fin 10000, ∀ b, m ((c : Thread nD τ).loc main_arg1) (ix1 b) = BitVec.ofNat 32 (act b).val := by
  obtain ⟨h0, h1, h2, h3, h4, h5, h6, h7, h8, h9, h10, h11⟩ :=
    Cert.Pre_finite_scores.holds _ _ _ _ _ _ _ _ _ _ _ _ _ _ _ _ (h c)
  refine ⟨⟨fun _ _ => h2 _, fun _ => h3 _, fun _ _ => h4 _, fun _ => h5 _, fun _ => h6 _, fun _ => h7 _, fun _ _ => h8 _,
    fun _ => h9 _, fun _ => h10 _, h11 _⟩, fun _ => ⟨fun _ => h0 _ _ (by dsimp only; omega), fun _ => h0 _ _ (by dsimp only; omega),
    fun _ => h0 _ _ (by dsimp only; omega), fun _ => h0 _ _ (by dsimp only; omega), fun _ _ => h0 _ _ (by dsimp only; omega),
    fun _ _ => h0 _ _ (by dsimp only; omega), fun _ _ => h0 _ _ (by dsimp only; omega),
    fun _ _ => h0 _ _ (by dsimp only; omega)⟩, ?_⟩
  exact ⟨fun b => (h1 (ix1 b)).choose, fun b => (h1 (ix1 b)).choose_spec⟩

end Kernel

end Cert.Net

end
-- ==== Proof.lean ====
/- The certificate's claim: the frames of the three programs, that the kernel over the reals prints from the kernel, and
   that its results are the reference's under the precondition. -/
module

public import proofs.«01_k».proof.Defs
public import proofs.«01_k».proof.Proof.KernelFrame
public import proofs.«01_k».proof.Proof.KernelIdealFrame
public import proofs.«01_k».proof.Proof.KernelIdealValue
public import proofs.«01_k».proof.Proof.Arr
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384
set_option maxHeartbeats 1600000

noncomputable section

namespace Cert.Proof

open Idealize.ShloMosaic Idealize.ShloMosaic.TcCoe Idealize.SL.Sem Cert.Net

/-- The reference runs, leaves its arguments as they were and every counter at zero: it declares no semaphore. -/
theorem frame_reference : Cert.quiescent_ReferenceIdeal := by
  intro m ρ _
  exact (θ_run Cert.ReferenceIdeal.defs _ _).mono
    (fun r h => ⟨fun c => (h c).2.2.2.2, sem_eq_zero_of_no_sems (by decide) r.2⟩)
    (Cert.ReferenceIdeal.Value.run (F := Ideal) m ρ)

/-- Under the precondition the kernel over the reals and the reference end with the same results: for each sample the
    logarithm of the chosen action's probability, the entropy and the critic's value. -/
theorem same_results : Cert.algebraic_KernelIdeal_ReferenceIdeal_pre_finite_scores := by
  intro m ρ m' ρ' hpre hag
  choose hP hS act ha using args_real m hpre
  refine ⟨fun c => m ((c : Thread Cert.KernelIdeal.nD Cert.KernelIdeal.τ).loc Cert.KernelIdeal.main_arg1),
    fun c i => logp (scores (argParams m c) (argSample m c (i 0))) (act c (i 0)),
    fun c i => ent (scores (argParams m c) (argSample m c (i 0))),
    fun c i => critic (argParams m c) (argSample m c (i 0)), ?_, ?_⟩
  · refine (θ_run Cert.KernelIdeal.defs _ _).mono (fun r h c => ?_) (Cert.KernelIdeal.Value.run_blocks m ρ)
    obtain ⟨h1, h2, h3, hk⟩ := h c
    exact ⟨hk.2.1, h1.trans (arr_logp m c (hP c) (hS c) (act c) (ha c)), h2.trans (arr_ent m c (hP c) (hS c)),
      h3.trans (arr_critic m c), hk⟩
  · refine (θ_run Cert.ReferenceIdeal.defs _ _).mono (fun r h c => ?_) (Cert.ReferenceIdeal.Value.run (F := Ideal) m' ρ')
    obtain ⟨h0, h1, h2, h3, hk⟩ := h c
    obtain ⟨e0, e1, e2, e3, e4, e5, e6, e7, e8, e9, e10, e11, e12, e13, e14, e15⟩ := hag c
    refine ⟨h0.trans e1, h1.trans ((Cert.ReferenceIdeal.Read.val_main_v85_eq m' c).trans ?_),
      h2.trans ((Cert.ReferenceIdeal.Read.val_main_v86_eq m' c).trans ?_),
      h3.trans ((Cert.ReferenceIdeal.Read.val_main_v87_eq m' c).trans ?_), hk⟩
    · rw [e0, e1, e2, e3, e4, e5, e6, e7, e8, e9, e10, e11]
      exact ref_logps _ _ _ _ _ _ _ _ _ _ _ _ _ _ _ _ rfl (act c) (ha c)
    · rw [e0, e2, e3, e4, e5, e6, e7, e8, e9, e10, e11]
      exact ref_ents _ _ _ _ _ _ _ _ _ _ _ _ _ _ _ rfl
    · rw [e0, e2, e3, e4, e5, e12, e13, e14, e15]
      exact ref_critics _ _ _ _ _ _ _ _ _ _ _ _ _ _ _ rfl

/-- The whole claim. -/
theorem claim : Cert.Claim :=
  ⟨Cert.Kernel.Gen.facts, Cert.KernelIdeal.Gen.facts, Cert.ReferenceIdeal.Gen.facts, Cert.Pre_finite_scores.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    same_results⟩

end Cert.Proof

end
